-- ==== Defs.lean ====
def Pre_Kernel [hPre_sizes_split_rows : Cert.Pre_sizes_split_rows.Facts] (m : (ℓ : Loc Cert.Kernel.nD Cert.Kernel.τ Cert.Kernel.sig) → Buf (Elt Bits) ℓ) : Prop :=
  ∀ c : Dev Cert.Kernel.nD,
    (Cert.Pre_sizes_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_sizes_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_sizes_split_rows : Cert.Pre_sizes_split_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sizes_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_split_rows [hPre_sizes_split_rows : Cert.Pre_sizes_split_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_split_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sizes_split_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_sizes_split_rows : Cert.Pre_sizes_split_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_split_rows : Cert.Pre_sizes_split_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_split_rows [hReferenceIdeal : Cert.ReferenceIdeal.Facts] [hPre_sizes_split_rows : Cert.Pre_sizes_split_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_split_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_split_rows : Cert.Pre_sizes_split_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_split_rows : Cert.Pre_sizes_split_rows.Facts),
    quiescent_Kernel (hKernel := hKernel) (hPre_sizes_split_rows := hPre_sizes_split_rows)
    ∧ quiescent_KernelIdeal (hKernelIdeal := hKernelIdeal) (hPre_sizes_split_rows := hPre_sizes_split_rows)
    ∧ quiescent_ReferenceIdeal (hReferenceIdeal := hReferenceIdeal)
    ∧ quiescent_ReferenceIdeal_pre_sizes_split_rows (hReferenceIdeal := hReferenceIdeal) (hPre_sizes_split_rows := hPre_sizes_split_rows)
    ∧ preserves_Kernel_KernelIdeal
    ∧ algebraic_KernelIdeal_ReferenceIdeal (hKernelIdeal := hKernelIdeal) (hReferenceIdeal := hReferenceIdeal) (hPre_sizes_split_rows := hPre_sizes_split_rows)
-- ==== Pre_sizes_split_rows.lean ====
abbrev S7680x5120 : Shape := ⟨2, ![7680, 5120]⟩
abbrev S25 : Shape := ⟨1, ![25]⟩
abbrev S25x1536x5120 : Shape := ⟨3, ![25, 1536, 5120]⟩
abbrev S25x1536 : Shape := ⟨2, ![25, 1536]⟩
abbrev S7680x1536 : Shape := ⟨2, ![7680, 1536]⟩
abbrev S_ : Shape := ⟨0, ![]⟩

class Facts : Prop where
  bcast_S_S25 : S_.BroadcastsInDim S25 (![] : Fin 0 → Fin S25.rank)
  reducesTo_S25_S_d0 : S25.ReducesTo [0] S_
  h_S_ : 0 < S_.numel

variable [Facts]

def fn {F : FTy → Type} [FloatOps F] (main_arg0 : FVec F S7680x5120 .bf16) (main_arg1 : IVec S25 32) (main_arg2 : FVec F S25x1536x5120 .fp8e4m3) (main_arg3 : FVec F S25x1536 .f32) (main_arg4 : FVec F S7680x1536 .bf16) (main_arg5 : FVec F S7680x1536 .bf16) : IVec S25 1 × IVec S_ 1 :=
  let main_c : IVec S_ 32 := constantI S_ 32 0#32
  let main_v0 : IVec S25 32 := broadcastInDim S25 ![] bcast_S_S25 main_c
  let main_v1 : IVec S25 1 := cmpi .sge main_arg1 main_v0
  let main_c_0 : IVec S_ 32 := constantI S_ 32 7680#32
  let main_v2 : IVec S25 32 := broadcastInDim S25 ![] bcast_S_S25 main_c_0
  let main_v3 : IVec S25 1 := cmpi .sle main_arg1 main_v2
  let main_v4 : IVec S25 1 := andi main_v1 main_v3
  let main_c_1 : IVec S_ 32 := constantI S_ 32 0#32
  let main_v5 : IVec S_ 32 := (fun x v => Host.reduce IntOp.addi x v reducesTo_S25_S_d0 h_S_) main_arg1 main_c_1
  let main_c_2 : IVec S_ 32 := constantI S_ 32 7680#32
  let main_v6 : IVec S_ 1 := cmpi .eq main_v5 main_c_2
  (main_v4, main_v6)
-- ==== Kernel.lean ====
abbrev S7680x5120 : Shape := ⟨2, ![7680, 5120]⟩
abbrev S25 : Shape := ⟨1, ![25]⟩
abbrev S25x1536x5120 : Shape := ⟨3, ![25, 1536, 5120]⟩
abbrev S25x1536 : Shape := ⟨2, ![25, 1536]⟩
abbrev S7680x1536 : Shape := ⟨2, ![7680, 1536]⟩
abbrev S_ : Shape := ⟨0, ![]⟩
abbrev S55 : Shape := ⟨1, ![55]⟩
abbrev S1 : Shape := ⟨1, ![1]⟩
abbrev S1x55 : Shape := ⟨2, ![1, 55]⟩
abbrev S25x1 : Shape := ⟨2, ![25, 1]⟩
abbrev S25x55 : Shape := ⟨2, ![25, 55]⟩
abbrev S55x1 : Shape := ⟨2, ![55, 1]⟩
abbrev S54 : Shape := ⟨1, ![54]⟩
abbrev S25x1x1536 : Shape := ⟨3, ![25, 1, 1536]⟩
abbrev S2x7680x1536 : Shape := ⟨3, ![2, 7680, 1536]⟩
abbrev S7680x1 : Shape := ⟨2, ![7680, 1]⟩
abbrev S256x5120 : Shape := ⟨2, ![256, 5120]⟩
abbrev S1x1536x5120 : Shape := ⟨3, ![1, 1536, 5120]⟩
abbrev S1x1x1536 : Shape := ⟨3, ![1, 1, 1536]⟩
abbrev S256x1536 : Shape := ⟨2, ![256, 1536]⟩
abbrev S2x256x1536 : Shape := ⟨3, ![2, 256, 1536]⟩
abbrev S256x1 : Shape := ⟨2, ![256, 1]⟩
abbrev S256x128 : Shape := ⟨2, ![256, 128]⟩
abbrev S256 : Shape := ⟨1, ![256]⟩
abbrev S1536x5120 : Shape := ⟨2, ![1536, 5120]⟩
abbrev S1x1536 : Shape := ⟨2, ![1, 1536]⟩
abbrev S1x256x1536 : Shape := ⟨3, ![1, 256, 1536]⟩

abbrev nBuf : Space → Nat
  | .hbm => 159
  | .vmem => 17
  | .smem => 5
  | _ => 0

abbrev hbmTy0_0 (i : Nat) : BufTy := match i % 128 with
  | 0 => ⟨S7680x5120, .bf16⟩
  | 1 => ⟨S25, .i32⟩
  | 2 => ⟨S25x1536x5120, .fp8e4m3⟩
  | 3 => ⟨S25x1536, .f32⟩
  | 4 => ⟨S7680x1536, .bf16⟩
  | 5 => ⟨S7680x1536, .bf16⟩
  | 6 => ⟨S_, .i32⟩
  | 7 => ⟨S_, .i32⟩
  | 8 => ⟨S25, .i32⟩
  | 9 => ⟨S25, .i32⟩
  | 10 => ⟨S_, .i32⟩
  | 11 => ⟨S_, .i32⟩
  | 12 => ⟨S25, .i32⟩
  | 13 => ⟨S25, .i32⟩
  | 14 => ⟨S25, .i32⟩
  | 15 => ⟨S_, .i32⟩
  | 16 => ⟨S25, .i32⟩
  | 17 => ⟨S25, .i1⟩
  | 18 => ⟨S25, .i32⟩
  | 19 => ⟨S25, .i32⟩
  | 20 => ⟨S_, .i32⟩
  | 21 => ⟨S25, .i32⟩
  | 22 => ⟨S25, .i1⟩
  | 23 => ⟨S25, .i1⟩
  | 24 => ⟨S_, .i32⟩
  | 25 => ⟨S25, .i32⟩
  | 26 => ⟨S25, .i32⟩
  | 27 => ⟨S25, .i32⟩
  | 28 => ⟨S_, .i32⟩
  | 29 => ⟨S25, .i32⟩
  | 30 => ⟨S25, .i1⟩
  | 31 => ⟨S_, .i32⟩
  | 32 => ⟨S25, .i32⟩
  | 33 => ⟨S25, .i32⟩
  | 34 => ⟨S_, .i32⟩
  | 35 => ⟨S_, .i32⟩
  | 36 => ⟨S25, .i32⟩
  | 37 => ⟨S25, .i32⟩
  | 38 => ⟨S25, .i32⟩
  | 39 => ⟨S_, .i32⟩
  | 40 => ⟨S25, .i32⟩
  | 41 => ⟨S25, .i1⟩
  | 42 => ⟨S25, .i32⟩
  | 43 => ⟨S25, .i32⟩
  | 44 => ⟨S_, .i32⟩
  | 45 => ⟨S25, .i32⟩
  | 46 => ⟨S25, .i1⟩
  | 47 => ⟨S25, .i1⟩
  | 48 => ⟨S_, .i32⟩
  | 49 => ⟨S25, .i32⟩
  | 50 => ⟨S25, .i32⟩
  | 51 => ⟨S25, .i32⟩
  | 52 => ⟨S25, .i32⟩
  | 53 => ⟨S_, .i32⟩
  | 54 => ⟨S25, .i32⟩
  | 55 => ⟨S25, .i32⟩
  | 56 => ⟨S_, .i32⟩
  | 57 => ⟨S_, .i32⟩
  | 58 => ⟨S25, .i32⟩
  | 59 => ⟨S25, .i32⟩
  | 60 => ⟨S_, .i32⟩
  | 61 => ⟨S_, .i32⟩
  | 62 => ⟨S25, .i32⟩
  | 63 => ⟨S55, .i32⟩
  | 64 => ⟨S1, .i32⟩
  | 65 => ⟨S_, .i32⟩
  | 66 => ⟨S_, .i32⟩
  | 67 => ⟨S_, .i32⟩
  | 68 => ⟨S55, .i32⟩
  | 69 => ⟨S55, .i32⟩
  | 70 => ⟨S1x55, .i32⟩
  | 71 => ⟨S25x1, .i32⟩
  | 72 => ⟨S25x55, .i32⟩
  | 73 => ⟨S25x55, .i32⟩
  | 74 => ⟨S25x55, .i1⟩
  | 75 => ⟨S25x55, .i32⟩
  | 76 => ⟨S_, .i32⟩
  | 77 => ⟨S_, .i32⟩
  | 78 => ⟨S55, .i32⟩
  | 79 => ⟨S55, .i1⟩
  | 80 => ⟨S_, .i32⟩
  | 81 => ⟨S55, .i32⟩
  | 82 => ⟨S55, .i32⟩
  | 83 => ⟨S55, .i32⟩
  | 84 => ⟨S55x1, .i32⟩
  | 85 => ⟨S55, .i32⟩
  | 86 => ⟨S55, .i32⟩
  | 87 => ⟨S25, .i32⟩
  | 88 => ⟨S_, .i32⟩
  | 89 => ⟨S55, .i32⟩
  | 90 => ⟨S55, .i1⟩
  | 91 => ⟨S_, .i32⟩
  | 92 => ⟨S55, .i32⟩
  | 93 => ⟨S55, .i32⟩
  | 94 => ⟨S55, .i32⟩
  | 95 => ⟨S55x1, .i32⟩
  | 96 => ⟨S55, .i32⟩
  | 97 => ⟨S_, .i32⟩
  | 98 => ⟨S55, .i32⟩
  | 99 => ⟨S55, .i1⟩
  | 100 => ⟨S_, .i32⟩
  | 101 => ⟨S55, .i32⟩
  | 102 => ⟨S55, .i32⟩
  | 103 => ⟨S55, .i32⟩
  | 104 => ⟨S55x1, .i32⟩
  | 105 => ⟨S55, .i32⟩
  | 106 => ⟨S_, .i32⟩
  | 107 => ⟨S55, .i32⟩
  | 108 => ⟨S55, .i32⟩
  | 109 => ⟨S_, .i32⟩
  | 110 => ⟨S55, .i32⟩
  | 111 => ⟨S55, .i1⟩
  | 112 => ⟨S_, .i32⟩
  | 113 => ⟨S55, .i32⟩
  | 114 => ⟨S55, .i32⟩
  | 115 => ⟨S55, .i32⟩
  | 116 => ⟨S55x1, .i32⟩
  | 117 => ⟨S55, .i32⟩
  | 118 => ⟨S_, .i32⟩
  | 119 => ⟨S55, .i32⟩
  | 120 => ⟨S55, .i32⟩
  | 121 => ⟨S55, .i32⟩
  | 122 => ⟨S55, .i1⟩
  | 123 => ⟨S_, .i32⟩
  | 124 => ⟨S55, .i32⟩
  | 125 => ⟨S55, .i1⟩
  | 126 => ⟨S1, .i32⟩
  | 127 => ⟨S54, .i32⟩
  | _ => ⟨S7680x5120, .bf16⟩

abbrev hbmTy0_1 (i : Nat) : BufTy := match i % 128 with
  | 0 => ⟨S55, .i32⟩
  | 1 => ⟨S55, .i1⟩
  | 2 => ⟨S55, .i1⟩
  | 3 => ⟨S55, .i1⟩
  | 4 => ⟨S_, .i32⟩
  | 5 => ⟨S_, .i32⟩
  | 6 => ⟨S55, .i32⟩
  | 7 => ⟨S55, .i1⟩
  | 8 => ⟨S54, .i32⟩
  | 9 => ⟨S1, .i32⟩
  | 10 => ⟨S55, .i32⟩
  | 11 => ⟨S55, .i1⟩
  | 12 => ⟨S55, .i1⟩
  | 13 => ⟨S55, .i1⟩
  | 14 => ⟨S55, .i32⟩
  | 15 => ⟨S_, .i32⟩
  | 16 => ⟨S55, .i32⟩
  | 17 => ⟨S55, .i32⟩
  | 18 => ⟨S55, .i32⟩
  | 19 => ⟨S_, .i32⟩
  | 20 => ⟨S55, .i32⟩
  | 21 => ⟨S55, .i32⟩
  | 22 => ⟨S55, .i32⟩
  | 23 => ⟨S55, .i32⟩
  | 24 => ⟨S_, .i32⟩
  | 25 => ⟨S55, .i32⟩
  | 26 => ⟨S55, .i32⟩
  | 27 => ⟨S55, .i32⟩
  | 28 => ⟨S25x1x1536, .f32⟩
  | 29 => ⟨S2x7680x1536, .fp8e5m2⟩
  | 30 => ⟨S7680x1, .f32⟩
  | _ => ⟨S7680x5120, .bf16⟩

abbrev hbmTy (i : Nat) : BufTy := match i / 128 with
  | 0 => hbmTy0_0 i
  | 1 => hbmTy0_1 i
  | _ => ⟨S7680x5120, .bf16⟩

abbrev bufTy : (tb : Table) → Fin (tcTables nBuf tb) → BufTy
  | .hbm, ⟨i, _⟩ => hbmTy i
  | .local _ .vmem, ⟨0, _⟩ => ⟨S256x5120, .bf16⟩
  | .local _ .vmem, ⟨1, _⟩ => ⟨S256x5120, .bf16⟩
  | .local _ .vmem, ⟨2, _⟩ => ⟨S1x1536x5120, .fp8e4m3⟩
  | .local _ .vmem, ⟨3, _⟩ => ⟨S1x1536x5120, .fp8e4m3⟩
  | .local _ .vmem, ⟨4, _⟩ => ⟨S1x1x1536, .f32⟩
  | .local _ .vmem, ⟨5, _⟩ => ⟨S1x1x1536, .f32⟩
  | .local _ .vmem, ⟨6, _⟩ => ⟨S256x1536, .bf16⟩
  | .local _ .vmem, ⟨7, _⟩ => ⟨S256x1536, .bf16⟩
  | .local _ .vmem, ⟨8, _⟩ => ⟨S256x1536, .bf16⟩
  | .local _ .vmem, ⟨9, _⟩ => ⟨S256x1536, .bf16⟩
  | .local _ .vmem, ⟨10, _⟩ => ⟨S2x256x1536, .fp8e5m2⟩
  | .local _ .vmem, ⟨11, _⟩ => ⟨S2x256x1536, .fp8e5m2⟩
  | .local _ .vmem, ⟨12, _⟩ => ⟨S256x1, .f32⟩
  | .local _ .vmem, ⟨13, _⟩ => ⟨S256x1, .f32⟩
  | .local _ .vmem, ⟨14, _⟩ => ⟨S256x5120, .fp8e5m2⟩
  | .local _ .vmem, ⟨15, _⟩ => ⟨S256x128, .f32⟩
  | .local _ .vmem, ⟨16, _⟩ => ⟨S256x1536, .f32⟩
  | .local _ .smem, ⟨0, _⟩ => ⟨S55, .i32⟩
  | .local _ .smem, ⟨1, _⟩ => ⟨S55, .i32⟩
  | .local _ .smem, ⟨2, _⟩ => ⟨S55, .i32⟩
  | .local _ .smem, ⟨3, _⟩ => ⟨S55, .i32⟩
  | .local _ .smem, ⟨4, _⟩ => ⟨S55, .i32⟩
  | _, _ => ⟨S7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_call4_call0_c : Ref sig .tc := ⟨.hbm, 60, rfl⟩
abbrev main_call4_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_call5_call0_v0 : Ref sig .tc := ⟨.hbm, 70, rfl⟩
abbrev main_call5_call0_v1 : Ref sig .tc := ⟨.hbm, 71, rfl⟩
abbrev main_call5_call0_v2 : Ref sig .tc := ⟨.hbm, 72, rfl⟩
abbrev main_call5_call0_v3 : Ref sig .tc := ⟨.hbm, 73, rfl⟩
abbrev main_call5_call0_v4 : Ref sig .tc := ⟨.hbm, 74, rfl⟩
abbrev main_call5_call0_v5 : Ref sig .tc := ⟨.hbm, 75, rfl⟩
abbrev main_call5_call0_c : Ref sig .tc := ⟨.hbm, 76, rfl⟩
abbrev main_c_6 : Ref sig .tc := ⟨.hbm, 77, rfl⟩
abbrev main_v20 : Ref sig .tc := ⟨.hbm, 78, rfl⟩
abbrev main_v21 : Ref sig .tc := ⟨.hbm, 79, rfl⟩
abbrev main_c_7 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_c_9 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_c_10 : Ref sig .tc := ⟨.hbm, 97, rfl⟩
abbrev main_v37 : Ref sig .tc := ⟨.hbm, 98, rfl⟩
abbrev main_v38 : Ref sig .tc := ⟨.hbm, 99, rfl⟩
abbrev main_c_11 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_12 : Ref sig .tc := ⟨.hbm, 106, rfl⟩
abbrev main_v44 : Ref sig .tc := ⟨.hbm, 107, rfl⟩
abbrev main_v45 : Ref sig .tc := ⟨.hbm, 108, rfl⟩
abbrev main_c_13 : Ref sig .tc := ⟨.hbm, 109, rfl⟩
abbrev main_v47 : Ref sig .tc := ⟨.hbm, 110, rfl⟩
abbrev main_v48 : Ref sig .tc := ⟨.hbm, 111, rfl⟩
abbrev main_c_14 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_c_15 : Ref sig .tc := ⟨.hbm, 118, rfl⟩
abbrev main_v54 : Ref sig .tc := ⟨.hbm, 119, rfl⟩
abbrev main_v55 : Ref sig .tc := ⟨.hbm, 120, rfl⟩
abbrev main_v57 : Ref sig .tc := ⟨.hbm, 121, rfl⟩
abbrev main_v58 : Ref sig .tc := ⟨.hbm, 122, rfl⟩
abbrev main_c_16 : Ref sig .tc := ⟨.hbm, 123, rfl⟩
abbrev main_v59 : Ref sig .tc := ⟨.hbm, 124, rfl⟩
abbrev main_v60 : Ref sig .tc := ⟨.hbm, 125, rfl⟩
abbrev main_call6_v0 : Ref sig .tc := ⟨.hbm, 126, rfl⟩
abbrev main_call6_v1 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_17 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_call7_v0 : Ref sig .tc := ⟨.hbm, 136, rfl⟩
abbrev main_call7_v1 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_c_18 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_c_19 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_c_20 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v84 : Ref sig .tc := ⟨.hbm, 156, rfl⟩
abbrev main_v85_0 : Ref sig .tc := ⟨.hbm, 157, rfl⟩
abbrev main_v85_1 : Ref sig .tc := ⟨.hbm, 158, rfl⟩
abbrev main_v36 : Ref sig .tc := ⟨.smem, 0, rfl⟩
abbrev main_v19 : Ref sig .tc := ⟨.smem, 1, rfl⟩
abbrev main_v46 : Ref sig .tc := ⟨.smem, 2, rfl⟩
abbrev main_v56 : Ref sig .tc := ⟨.smem, 3, rfl⟩
abbrev main_v83 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![55], ![false]⟩

abbrev pre0 : Pipeline.Prefetch sig := ⟨5, ![main_v36.idx, main_v19.idx, main_v46.idx, main_v56.idx, main_v83.idx], fun | 0 => main_v36.names | 1 => main_v19.names | 2 => main_v46.names | 3 => main_v56.names | 4 => main_v83.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v26 : Index := Scalar.indexCast arg0
  ![v26.toNat]
def k0_cond3 (v1 : BitVec 32) : BitVec 1 :=
  let c2_i32 : BitVec 32 := 2#32
  let v10 : BitVec 32 := Scalar.andi v1 c2_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S55.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S55) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S55.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S55) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S55.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_6 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1536 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S7680x5120 : Shape := ⟨2, ![7680, 5120]⟩
abbrev S25 : Shape := ⟨1, ![25]⟩
abbrev S25x1536x5120 : Shape := ⟨3, ![25, 1536, 5120]⟩
abbrev S25x1536 : Shape := ⟨2, ![25, 1536]⟩
abbrev S7680x1536 : Shape := ⟨2, ![7680, 1536]⟩
abbrev S25x1 : Shape := ⟨2, ![25, 1]⟩
abbrev S38400x5120 : Shape := ⟨2, ![38400, 5120]⟩
abbrev S2x7680x1536 : Shape := ⟨3, ![2, 7680, 1536]⟩
abbrev S7680x1 : Shape := ⟨2, ![7680, 1]⟩
abbrev S7680 : Shape := ⟨1, ![7680]⟩
abbrev S25x25 : Shape := ⟨2, ![25, 25]⟩
abbrev S1x25x1 : Shape := ⟨3, ![1, 25, 1]⟩
abbrev S7680x25x1 : Shape := ⟨3, ![7680, 25, 1]⟩
abbrev S7680x38400 : Shape := ⟨2, ![7680, 38400]⟩
abbrev S7680x25x1536 : Shape := ⟨3, ![7680, 25, 1536]⟩
abbrev S7680x1x1 : Shape := ⟨3, ![7680, 1, 1]⟩
abbrev S1x25x1536 : Shape := ⟨3, ![1, 25, 1536]⟩
abbrev S1x7680x1536 : Shape := ⟨3, ![1, 7680, 1536]⟩

abbrev nBuf : Space → Nat
  | .hbm => 10
  | .vmem => 8
  | .smem => 0
  | _ => 0

abbrev bufTy : (tb : Table) → Fin (tcTables nBuf tb) → BufTy
  | .hbm, ⟨0, _⟩ => ⟨S7680x5120, .bf16⟩
  | .hbm, ⟨1, _⟩ => ⟨S25, .i32⟩
  | .hbm, ⟨2, _⟩ => ⟨S25x1536x5120, .fp8e4m3⟩
  | .hbm, ⟨3, _⟩ => ⟨S25x1536, .f32⟩
  | .hbm, ⟨4, _⟩ => ⟨S7680x1536, .bf16⟩
  | .hbm, ⟨5, _⟩ => ⟨S7680x1536, .bf16⟩
  | .hbm, ⟨6, _⟩ => ⟨S25x1, .i32⟩
  | .hbm, ⟨7, _⟩ => ⟨S38400x5120, .fp8e4m3⟩
  | .hbm, ⟨8, _⟩ => ⟨S2x7680x1536, .fp8e5m2⟩
  | .hbm, ⟨9, _⟩ => ⟨S7680x1, .f32⟩
  | .local _ .vmem, ⟨0, _⟩ => ⟨S25x1, .i32⟩
  | .local _ .vmem, ⟨1, _⟩ => ⟨S7680x5120, .bf16⟩
  | .local _ .vmem, ⟨2, _⟩ => ⟨S38400x5120, .fp8e4m3⟩
  | .local _ .vmem, ⟨3, _⟩ => ⟨S25x1536, .f32⟩
  | .local _ .vmem, ⟨4, _⟩ => ⟨S7680x1536, .bf16⟩
  | .local _ .vmem, ⟨5, _⟩ => ⟨S7680x1536, .bf16⟩
  | .local _ .vmem, ⟨6, _⟩ => ⟨S2x7680x1536, .fp8e5m2⟩
  | .local _ .vmem, ⟨7, _⟩ => ⟨S7680x1, .f32⟩
  | _, _ => ⟨S7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S25x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S38400x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S25x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x7680x1536 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Host.lean ====
module

public import proofs.«01_k».proof.Proof.Gen.KernelIdeal.Launch
public import Idealize.ShloMosaic.Lib.Claim
public import Idealize.ShloMosaic.Lib.Routing.Words
public import Idealize.ShloMosaic.Lib.Routing.OpsSet
public import Idealize.ShloMosaic.Lib.Routing.OpsPair
@[expose] public section
noncomputable section

/-! # The host lines before the region, as functions of the group sizes

Each table the region reads is what the host lines make of the vector `z` of the 25 group sizes. The functions below
spell those lines out; the theorems at the end say that the region finds the tables so. -/
namespace Cert.Proof.Host

open Idealize.ShloMosaic Idealize.ShloMosaic.TcCoe Idealize.SL.Sem
open Cert.KernelIdeal Cert.KernelIdeal.Gen

/-- The same scalar at every expert. -/
abbrev bc25 (k : BitVec 32) : IVec S25 32 := broadcastInDim S25 ![] bcast_S_S25 (constantI S_ 32 k)
/-- The same scalar at every grid point. -/
abbrev bc55 (k : BitVec 32) : IVec S55 32 := broadcastInDim S55 ![] bcast_S_S55 (constantI S_ 32 k)
/-- Running sums. -/
def wCum (z : IVec S25 32) : IVec S25 32 :=
  Host.reduceWindow IntOp.addi ![25] ![1] ![24] ![0] z (broadcastInDim S_ ![] bcast_S_S_ (constantI S_ 32 0#32))
    reduceWindows_S25_S25_w25s1p24_0 h_S_
/-- The row after the last of each expert. -/
def wEnds (z : IVec S25 32) : IVec S25 32 := wCum z
/-- The first row of each expert. -/
def wStarts (z : IVec S25 32) : IVec S25 32 := subi (wEnds z) z
/-- The tile of each expert's first row. -/
def wFirst (z : IVec S25 32) : IVec S25 32 := Routing.pyDiv bcast_S_S25 (wStarts z) (constantI S_ 32 256#32)
/-- The tile of each expert's last row. -/
def wLast (z : IVec S25 32) : IVec S25 32 := Routing.pyDiv bcast_S_S25 (subi (wEnds z) (bc25 1#32)) (constantI S_ 32 256#32)
/-- The number of visits of each expert. -/
def wNv (z : IVec S25 32) : IVec S25 32 :=
  select (cmpi .sgt z (bc25 0#32)) (addi (subi (wLast z) (wFirst z)) (bc25 1#32)) (bc25 0#32)
/-- The visit after the last of each expert. -/
def wVend (z : IVec S25 32) : IVec S25 32 := wCum (wNv z)
/-- The number of visits. -/
def wTotal (z : IVec S25 32) : IVec S_ 32 := shapeCast S_ (extractStridedSlice S1 ![24] (wVend z) slices_S25_S1_24) shapeCasts_S1_S_
/-- The visit of each grid point. -/
def wVc (z : IVec S25 32) : IVec S55 32 :=
  minsi (iotaInDim S55 32 0) (broadcastInDim S55 ![] bcast_S_S55 (subi (wTotal z) (constantI S_ 32 1#32)))
/-- The expert of each grid point: the number of experts whose visits are over. -/
def wOwn (z : IVec S25 32) : IVec S55 32 :=
  Host.reduce IntOp.addi (extui 32 (cmpi .sle
      (broadcastInDim S25x55 ![0, 1] bcast_S25x1_S25x55_0_1 (broadcastInDim S25x1 ![0] bcast_S25_S25x1_0 (wVend z)))
      (broadcastInDim S25x55 ![0, 1] bcast_S1x55_S25x55_0_1 (broadcastInDim S1x55 ![1] bcast_S55_S1x55_1 (wVc z)))) natLt_1_32)
    (constantI S_ 32 0#32) reducesTo_S25x55_S55_d0 h_S_
/-- A table of the experts read at each grid point's expert. -/
def wTake (x : IVec S25 32) (z : IVec S25 32) : IVec S55 32 :=
  Host.gather gather_S25_S55x1_S55_n_0_n_n_0_1_1 x (broadcastInDim S55x1 ![0] bcast_S55_S55x1_0
    (select (cmpi .slt (wOwn z) (bc55 0#32)) (addi (wOwn z) (bc55 25#32)) (wOwn z)))
/-- The tile of each grid point. -/
def wTile (z : IVec S25 32) : IVec S55 32 :=
  subi (addi (wTake (wFirst z) z) (wVc z)) (wTake (subi (wVend z) (wNv z)) z)
/-- The tile's first row of the visit's expert, -/
def wLo (z : IVec S25 32) : IVec S55 32 := subi (wTake (wStarts z) z) (muli (wTile z) (bc55 256#32))
/-- and the row after its last. -/
def wHi (z : IVec S25 32) : IVec S55 32 := subi (wTake (wEnds z) z) (muli (wTile z) (bc55 256#32))
/-- Whether the grid point is a visit, -/
def wLive (z : IVec S25 32) : IVec S55 1 := cmpi .slt (iotaInDim S55 32 0) (broadcastInDim S55 ![] bcast_S_S55 (wTotal z))
/-- the first of its tile, -/
def wFirstOf (z : IVec S25 32) : IVec S55 1 :=
  andi (wLive z) (ori (cmpi .eq (iotaInDim S55 32 0) (bc55 0#32)) (cmpi .ne (wTile z)
    (concatenate S55 0 [⟨S1, extractStridedSlice S1 ![54] (wTile z) slices_S55_S1_54⟩,
      ⟨S54, extractStridedSlice S54 ![0] (wTile z) slices_S55_S54_0⟩] concatenates_S1_S54_S55_d0)))
/-- the last of its tile, -/
def wLastOf (z : IVec S25 32) : IVec S55 1 :=
  andi (wLive z) (ori (cmpi .eq (iotaInDim S55 32 0) (broadcastInDim S55 ![] bcast_S_S55 (subi (wTotal z) (constantI S_ 32 1#32))))
    (cmpi .ne (wTile z)
    (concatenate S55 0 [⟨S54, extractStridedSlice S54 ![1] (wTile z) slices_S55_S54_1⟩,
      ⟨S1, extractStridedSlice S1 ![0] (wTile z) slices_S55_S1_0⟩] concatenates_S54_S1_S55_d0)))
/-- and the three as the bits of one word. -/
def wFlag (z : IVec S25 32) : IVec S55 32 :=
  addi (addi (muli (extui 32 (wFirstOf z) natLt_1_32) (bc55 1#32)) (muli (extui 32 (wLastOf z) natLt_1_32) (bc55 2#32)))
    (muli (extui 32 (wLive z) natLt_1_32) (bc55 4#32))

variable {F : FTy → Type} [FloatOps F]

/-- The host lines, stretch by stretch. -/
abbrev opss : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14]

variable (G : Valuation τ sig (Elt F))

/-- What every buffer holds after the first `k` stretches. -/
def upto : ℕ → Valuation τ sig (Elt F)
  | 0 => G
  | k + 1 => StableHlo.after ((opss (F := F)).getD k []) (upto k)

theorem upto_all : StableHlo.after (opss (F := F)).flatten G = upto G 15 := by
  simp only [opss, List.flatten_cons, List.flatten_nil, StableHlo.after_append, StableHlo.after_nil]
  rfl

variable {W : Valuation τ sig (Elt F)} {z : IVec S25 32}

/-- A vector of one word and one of 54 after it, joined, are determined by the two. -/
theorem cat_first {a a' : IVec S1 32} {b b' : IVec S54 32} (ha : a = a') (hb : b = b') :
    concatenate S55 0 [⟨S1, a⟩, ⟨S54, b⟩] concatenates_S1_S54_S55_d0 =
      concatenate S55 0 [⟨S1, a'⟩, ⟨S54, b'⟩] concatenates_S1_S54_S55_d0 := by rw [ha, hb]
/-- The same with the single word last. -/
theorem cat_last {a a' : IVec S54 32} {b b' : IVec S1 32} (ha : a = a') (hb : b = b') :
    concatenate S55 0 [⟨S54, a⟩, ⟨S1, b⟩] concatenates_S54_S1_S55_d0 =
      concatenate S55 0 [⟨S54, a'⟩, ⟨S1, b'⟩] concatenates_S54_S1_S55_d0 := by rw [ha, hb]

/-! What the buffers that later stretches read hold after each stretch. -/

theorem at_1 (h_arg1 : W (Proc.devRef .tc main_arg1) = z) :
    StableHlo.after hostOps0 W (Proc.devRef .tc main_arg1) = z ∧
    StableHlo.after hostOps0 W (Proc.devRef .tc main_v0) = wEnds z := by
  refine ⟨?_, ?_⟩
  all_goals
    after_results_simp
    try simp -implicitDefEqProofs only [StableHlo.TRef.toBuf, StableHlo.TRef.ofBuf, cast_cast, cast_eq]
    try simp only [h_arg1]
    try rfl
theorem at_2 (h_arg1 : W (Proc.devRef .tc main_arg1) = z)
    (h_v0 : W (Proc.devRef .tc main_v0) = wEnds z) :
    StableHlo.after hostOps0_1 W (Proc.devRef .tc main_arg1) = z ∧
    StableHlo.after hostOps0_1 W (Proc.devRef .tc main_v0) = wEnds z ∧
    StableHlo.after hostOps0_1 W (Proc.devRef .tc main_v1) = wStarts z ∧
    StableHlo.after hostOps0_1 W (Proc.devRef .tc main_c) = constantI S_ 32 256#32 := by
  refine ⟨?_, ?_, ?_, ?_⟩
  all_goals
    after_results_simp
    try simp -implicitDefEqProofs only [StableHlo.TRef.toBuf, StableHlo.TRef.ofBuf, cast_cast, cast_eq]
    try simp only [h_arg1, h_v0]
    try rfl
theorem at_3 (h_arg1 : W (Proc.devRef .tc main_arg1) = z)
    (h_v0 : W (Proc.devRef .tc main_v0) = wEnds z)
    (h_v1 : W (Proc.devRef .tc main_v1) = wStarts z)
    (h_c : W (Proc.devRef .tc main_c) = constantI S_ 32 256#32) :
    StableHlo.after hostOps0_2 W (Proc.devRef .tc main_arg1) = z ∧
    StableHlo.after hostOps0_2 W (Proc.devRef .tc main_v0) = wEnds z ∧
    StableHlo.after hostOps0_2 W (Proc.devRef .tc main_v1) = wStarts z ∧
    StableHlo.after hostOps0_2 W (Proc.devRef .tc main_v2) = wFirst z := by
  refine ⟨?_, ?_, ?_, ?_⟩
  all_goals
    after_results_simp
    try simp -implicitDefEqProofs only [StableHlo.TRef.toBuf, StableHlo.TRef.ofBuf, cast_cast, cast_eq]
    try simp only [h_arg1, h_v0, h_v1, h_c]
    try rfl
theorem at_4 (h_arg1 : W (Proc.devRef .tc main_arg1) = z)
    (h_v0 : W (Proc.devRef .tc main_v0) = wEnds z)
    (h_v1 : W (Proc.devRef .tc main_v1) = wStarts z)
    (h_v2 : W (Proc.devRef .tc main_v2) = wFirst z) :
    StableHlo.after hostOps0_3 W (Proc.devRef .tc main_v0) = wEnds z ∧
    StableHlo.after hostOps0_3 W (Proc.devRef .tc main_v1) = wStarts z ∧
    StableHlo.after hostOps0_3 W (Proc.devRef .tc main_v2) = wFirst z ∧
    StableHlo.after hostOps0_3 W (Proc.devRef .tc main_v4) = cmpi .sgt z (bc25 0#32) ∧
    StableHlo.after hostOps0_3 W (Proc.devRef .tc main_v6) = subi (wEnds z) (bc25 1#32) ∧
    StableHlo.after hostOps0_3 W (Proc.devRef .tc main_c_2) = constantI S_ 32 256#32 := by
  refine ⟨?_, ?_, ?_, ?_, ?_, ?_⟩
  all_goals
    after_results_simp
    try simp -implicitDefEqProofs only [StableHlo.TRef.toBuf, StableHlo.TRef.ofBuf, cast_cast, cast_eq]
    try simp only [h_arg1, h_v0, h_v1, h_v2]
    try rfl
theorem at_5 (h_v0 : W (Proc.devRef .tc main_v0) = wEnds z)
    (h_v1 : W (Proc.devRef .tc main_v1) = wStarts z)
    (h_v2 : W (Proc.devRef .tc main_v2) = wFirst z)
    (h_v4 : W (Proc.devRef .tc main_v4) = cmpi .sgt z (bc25 0#32))
    (h_v6 : W (Proc.devRef .tc main_v6) = subi (wEnds z) (bc25 1#32))
    (h_c_2 : W (Proc.devRef .tc main_c_2) = constantI S_ 32 256#32) :
    StableHlo.after hostOps0_4 W (Proc.devRef .tc main_v0) = wEnds z ∧
    StableHlo.after hostOps0_4 W (Proc.devRef .tc main_v1) = wStarts z ∧
    StableHlo.after hostOps0_4 W (Proc.devRef .tc main_v2) = wFirst z ∧
    StableHlo.after hostOps0_4 W (Proc.devRef .tc main_v4) = cmpi .sgt z (bc25 0#32) ∧
    StableHlo.after hostOps0_4 W (Proc.devRef .tc main_v7) = wLast z := by
  refine ⟨?_, ?_, ?_, ?_, ?_⟩
  all_goals
    after_results_simp
    try simp -implicitDefEqProofs only [StableHlo.TRef.toBuf, StableHlo.TRef.ofBuf, cast_cast, cast_eq]
    try simp only [h_v0, h_v1, h_v2, h_v4, h_v6, h_c_2]
    try rfl
theorem at_6 (h_v0 : W (Proc.devRef .tc main_v0) = wEnds z)
    (h_v1 : W (Proc.devRef .tc main_v1) = wStarts z)
    (h_v2 : W (Proc.devRef .tc main_v2) = wFirst z)
    (h_v4 : W (Proc.devRef .tc main_v4) = cmpi .sgt z (bc25 0#32))
    (h_v7 : W (Proc.devRef .tc main_v7) = wLast z) :
    StableHlo.after hostOps0_5 W (Proc.devRef .tc main_v0) = wEnds z ∧
    StableHlo.after hostOps0_5 W (Proc.devRef .tc main_v1) = wStarts z ∧
    StableHlo.after hostOps0_5 W (Proc.devRef .tc main_v2) = wFirst z ∧
    StableHlo.after hostOps0_5 W (Proc.devRef .tc main_v4) = cmpi .sgt z (bc25 0#32) ∧
    StableHlo.after hostOps0_5 W (Proc.devRef .tc main_v10) = addi (subi (wLast z) (wFirst z)) (bc25 1#32) ∧
    StableHlo.after hostOps0_5 W (Proc.devRef .tc main_c_4) = constantI S_ 32 0#32 := by
  refine ⟨?_, ?_, ?_, ?_, ?_, ?_⟩
  all_goals
    after_results_simp
    try simp -implicitDefEqProofs only [StableHlo.TRef.toBuf, StableHlo.TRef.ofBuf, cast_cast, cast_eq]
    try simp only [h_v0, h_v1, h_v2, h_v4, h_v7]
    try rfl
theorem at_7 (h_v0 : W (Proc.devRef .tc main_v0) = wEnds z)
    (h_v1 : W (Proc.devRef .tc main_v1) = wStarts z)
    (h_v2 : W (Proc.devRef .tc main_v2) = wFirst z)
    (h_v4 : W (Proc.devRef .tc main_v4) = cmpi .sgt z (bc25 0#32))
    (h_v10 : W (Proc.devRef .tc main_v10) = addi (subi (wLast z) (wFirst z)) (bc25 1#32))
    (h_c_4 : W (Proc.devRef .tc main_c_4) = constantI S_ 32 0#32) :
    StableHlo.after hostOps0_6 W (Proc.devRef .tc main_v0) = wEnds z ∧
    StableHlo.after hostOps0_6 W (Proc.devRef .tc main_v1) = wStarts z ∧
    StableHlo.after hostOps0_6 W (Proc.devRef .tc main_v2) = wFirst z ∧
    StableHlo.after hostOps0_6 W (Proc.devRef .tc main_v11) = wNv z := by
  refine ⟨?_, ?_, ?_, ?_⟩
  all_goals
    after_results_simp
    try simp -implicitDefEqProofs only [StableHlo.TRef.toBuf, StableHlo.TRef.ofBuf, cast_cast, cast_eq]
    try simp only [h_v0, h_v1, h_v2, h_v4, h_v10, h_c_4]
    try rfl
theorem at_8 (h_v0 : W (Proc.devRef .tc main_v0) = wEnds z)
    (h_v1 : W (Proc.devRef .tc main_v1) = wStarts z)
    (h_v2 : W (Proc.devRef .tc main_v2) = wFirst z)
    (h_v11 : W (Proc.devRef .tc main_v11) = wNv z) :
    StableHlo.after hostOps0_7 W (Proc.devRef .tc main_v0) = wEnds z ∧
    StableHlo.after hostOps0_7 W (Proc.devRef .tc main_v1) = wStarts z ∧
    StableHlo.after hostOps0_7 W (Proc.devRef .tc main_v2) = wFirst z ∧
    StableHlo.after hostOps0_7 W (Proc.devRef .tc main_v11) = wNv z ∧
    StableHlo.after hostOps0_7 W (Proc.devRef .tc main_v12) = wVend z := by
  refine ⟨?_, ?_, ?_, ?_, ?_⟩
  all_goals
    after_results_simp
    try simp -implicitDefEqProofs only [StableHlo.TRef.toBuf, StableHlo.TRef.ofBuf, cast_cast, cast_eq]
    try simp only [h_v0, h_v1, h_v2, h_v11]
    try rfl
theorem at_9 (h_v0 : W (Proc.devRef .tc main_v0) = wEnds z)
    (h_v1 : W (Proc.devRef .tc main_v1) = wStarts z)
    (h_v2 : W (Proc.devRef .tc main_v2) = wFirst z)
    (h_v11 : W (Proc.devRef .tc main_v11) = wNv z)
    (h_v12 : W (Proc.devRef .tc main_v12) = wVend z) :
    StableHlo.after hostOps0_8 W (Proc.devRef .tc main_v0) = wEnds z ∧
    StableHlo.after hostOps0_8 W (Proc.devRef .tc main_v1) = wStarts z ∧
    StableHlo.after hostOps0_8 W (Proc.devRef .tc main_v2) = wFirst z ∧
    StableHlo.after hostOps0_8 W (Proc.devRef .tc main_v11) = wNv z ∧
    StableHlo.after hostOps0_8 W (Proc.devRef .tc main_v12) = wVend z ∧
    StableHlo.after hostOps0_8 W (Proc.devRef .tc main_v13) = iotaInDim S55 32 0 ∧
    StableHlo.after hostOps0_8 W (Proc.devRef .tc main_v15) = wTotal z ∧
    StableHlo.after hostOps0_8 W (Proc.devRef .tc main_v18) = wVc z := by
  refine ⟨?_, ?_, ?_, ?_, ?_, ?_, ?_, ?_⟩
  all_goals
    after_results_simp
    try simp -implicitDefEqProofs only [StableHlo.TRef.toBuf, StableHlo.TRef.ofBuf, cast_cast, cast_eq]
    try simp only [h_v0, h_v1, h_v2, h_v11, h_v12]
    try rfl
theorem at_10 (h_v0 : W (Proc.devRef .tc main_v0) = wEnds z)
    (h_v1 : W (Proc.devRef .tc main_v1) = wStarts z)
    (h_v2 : W (Proc.devRef .tc main_v2) = wFirst z)
    (h_v11 : W (Proc.devRef .tc main_v11) = wNv z)
    (h_v12 : W (Proc.devRef .tc main_v12) = wVend z)
    (h_v13 : W (Proc.devRef .tc main_v13) = iotaInDim S55 32 0)
    (h_v15 : W (Proc.devRef .tc main_v15) = wTotal z)
    (h_v18 : W (Proc.devRef .tc main_v18) = wVc z) :
    StableHlo.after hostOps0_9 W (Proc.devRef .tc main_v0) = wEnds z ∧
    StableHlo.after hostOps0_9 W (Proc.devRef .tc main_v1) = wStarts z ∧
    StableHlo.after hostOps0_9 W (Proc.devRef .tc main_v2) = wFirst z ∧
    StableHlo.after hostOps0_9 W (Proc.devRef .tc main_v11) = wNv z ∧
    StableHlo.after hostOps0_9 W (Proc.devRef .tc main_v12) = wVend z ∧
    StableHlo.after hostOps0_9 W (Proc.devRef .tc main_v13) = iotaInDim S55 32 0 ∧
    StableHlo.after hostOps0_9 W (Proc.devRef .tc main_v15) = wTotal z ∧
    StableHlo.after hostOps0_9 W (Proc.devRef .tc main_v18) = wVc z ∧
    StableHlo.after hostOps0_9 W (Proc.devRef .tc main_v19) = wOwn z := by
  refine ⟨?_, ?_, ?_, ?_, ?_, ?_, ?_, ?_, ?_⟩
  all_goals
    after_results_simp
    try simp -implicitDefEqProofs only [StableHlo.TRef.toBuf, StableHlo.TRef.ofBuf, cast_cast, cast_eq]
    try simp only [h_v0, h_v1, h_v2, h_v11, h_v12, h_v13, h_v15, h_v18]
    try rfl
theorem at_11 (h_v0 : W (Proc.devRef .tc main_v0) = wEnds z)
    (h_v1 : W (Proc.devRef .tc main_v1) = wStarts z)
    (h_v2 : W (Proc.devRef .tc main_v2) = wFirst z)
    (h_v11 : W (Proc.devRef .tc main_v11) = wNv z)
    (h_v12 : W (Proc.devRef .tc main_v12) = wVend z)
    (h_v13 : W (Proc.devRef .tc main_v13) = iotaInDim S55 32 0)
    (h_v15 : W (Proc.devRef .tc main_v15) = wTotal z)
    (h_v18 : W (Proc.devRef .tc main_v18) = wVc z)
    (h_v19 : W (Proc.devRef .tc main_v19) = wOwn z) :
    StableHlo.after hostOps0_10 W (Proc.devRef .tc main_v36) = wTile z ∧
    StableHlo.after hostOps0_10 W (Proc.devRef .tc main_v19) = wOwn z ∧
    StableHlo.after hostOps0_10 W (Proc.devRef .tc main_v46) = wLo z ∧
    StableHlo.after hostOps0_10 W (Proc.devRef .tc main_v56) = wHi z ∧
    StableHlo.after hostOps0_10 W (Proc.devRef .tc main_v58) = wLive z ∧
    StableHlo.after hostOps0_10 W (Proc.devRef .tc main_v60) = cmpi .eq (iotaInDim S55 32 0) (bc55 0#32) ∧
    StableHlo.after hostOps0_10 W (Proc.devRef .tc main_v13) = iotaInDim S55 32 0 ∧
    StableHlo.after hostOps0_10 W (Proc.devRef .tc main_v15) = wTotal z := by
  refine ⟨?_, ?_, ?_, ?_, ?_, ?_, ?_, ?_⟩
  all_goals
    after_results_simp
    try simp -implicitDefEqProofs only [StableHlo.TRef.toBuf, StableHlo.TRef.ofBuf, cast_cast, cast_eq]
    try simp only [h_v0, h_v1, h_v2, h_v11, h_v12, h_v13, h_v15, h_v18, h_v19]
    try simp only [wTile, wLo, wHi, wLive, wTake]
    try with_reducible rfl
theorem at_12 (h_v36 : W (Proc.devRef .tc main_v36) = wTile z)
    (h_v19 : W (Proc.devRef .tc main_v19) = wOwn z)
    (h_v46 : W (Proc.devRef .tc main_v46) = wLo z)
    (h_v56 : W (Proc.devRef .tc main_v56) = wHi z)
    (h_v58 : W (Proc.devRef .tc main_v58) = wLive z)
    (h_v60 : W (Proc.devRef .tc main_v60) = cmpi .eq (iotaInDim S55 32 0) (bc55 0#32))
    (h_v13 : W (Proc.devRef .tc main_v13) = iotaInDim S55 32 0)
    (h_v15 : W (Proc.devRef .tc main_v15) = wTotal z) :
    StableHlo.after hostOps0_11 W (Proc.devRef .tc main_v36) = wTile z ∧
    StableHlo.after hostOps0_11 W (Proc.devRef .tc main_v19) = wOwn z ∧
    StableHlo.after hostOps0_11 W (Proc.devRef .tc main_v46) = wLo z ∧
    StableHlo.after hostOps0_11 W (Proc.devRef .tc main_v56) = wHi z ∧
    StableHlo.after hostOps0_11 W (Proc.devRef .tc main_v58) = wLive z ∧
    StableHlo.after hostOps0_11 W (Proc.devRef .tc main_v60) = cmpi .eq (iotaInDim S55 32 0) (bc55 0#32) ∧
    StableHlo.after hostOps0_11 W (Proc.devRef .tc main_v61) = concatenate S55 0 [⟨S1, extractStridedSlice S1 ![54] (wTile z) slices_S55_S1_54⟩,
      ⟨S54, extractStridedSlice S54 ![0] (wTile z) slices_S55_S54_0⟩] concatenates_S1_S54_S55_d0 ∧
    StableHlo.after hostOps0_11 W (Proc.devRef .tc main_v13) = iotaInDim S55 32 0 ∧
    StableHlo.after hostOps0_11 W (Proc.devRef .tc main_v15) = wTotal z := by
  refine ⟨?_, ?_, ?_, ?_, ?_, ?_, ?_, ?_, ?_⟩
  all_goals
    after_results_simp
    try simp -implicitDefEqProofs only [StableHlo.TRef.toBuf, StableHlo.TRef.ofBuf, cast_cast, cast_eq]
    try simp only [h_v36, h_v19, h_v46, h_v56, h_v58, h_v60, h_v13, h_v15]
    try with_reducible rfl
  refine cat_first ?_ ?_
  all_goals
    after_results_simp
    try simp -implicitDefEqProofs only [StableHlo.TRef.toBuf, StableHlo.TRef.ofBuf, cast_cast, cast_eq]
    simp only [h_v36]
theorem at_13 (h_v36 : W (Proc.devRef .tc main_v36) = wTile z)
    (h_v19 : W (Proc.devRef .tc main_v19) = wOwn z)
    (h_v46 : W (Proc.devRef .tc main_v46) = wLo z)
    (h_v56 : W (Proc.devRef .tc main_v56) = wHi z)
    (h_v58 : W (Proc.devRef .tc main_v58) = wLive z)
    (h_v60 : W (Proc.devRef .tc main_v60) = cmpi .eq (iotaInDim S55 32 0) (bc55 0#32))
    (h_v61 : W (Proc.devRef .tc main_v61) = concatenate S55 0 [⟨S1, extractStridedSlice S1 ![54] (wTile z) slices_S55_S1_54⟩,
      ⟨S54, extractStridedSlice S54 ![0] (wTile z) slices_S55_S54_0⟩] concatenates_S1_S54_S55_d0)
    (h_v13 : W (Proc.devRef .tc main_v13) = iotaInDim S55 32 0)
    (h_v15 : W (Proc.devRef .tc main_v15) = wTotal z) :
    StableHlo.after hostOps0_12 W (Proc.devRef .tc main_v36) = wTile z ∧
    StableHlo.after hostOps0_12 W (Proc.devRef .tc main_v19) = wOwn z ∧
    StableHlo.after hostOps0_12 W (Proc.devRef .tc main_v46) = wLo z ∧
    StableHlo.after hostOps0_12 W (Proc.devRef .tc main_v56) = wHi z ∧
    StableHlo.after hostOps0_12 W (Proc.devRef .tc main_v58) = wLive z ∧
    StableHlo.after hostOps0_12 W (Proc.devRef .tc main_v64) = wFirstOf z ∧
    StableHlo.after hostOps0_12 W (Proc.devRef .tc main_v67) = cmpi .eq (iotaInDim S55 32 0)
      (broadcastInDim S55 ![] bcast_S_S55 (subi (wTotal z) (constantI S_ 32 1#32))) := by
  refine ⟨?_, ?_, ?_, ?_, ?_, ?_, ?_⟩
  all_goals
    after_results_simp
    try simp -implicitDefEqProofs only [StableHlo.TRef.toBuf, StableHlo.TRef.ofBuf, cast_cast, cast_eq]
    try simp only [h_v36, h_v19, h_v46, h_v56, h_v58, h_v60, h_v61, h_v13, h_v15]
    try rfl
theorem at_14 (h_v36 : W (Proc.devRef .tc main_v36) = wTile z)
    (h_v19 : W (Proc.devRef .tc main_v19) = wOwn z)
    (h_v46 : W (Proc.devRef .tc main_v46) = wLo z)
    (h_v56 : W (Proc.devRef .tc main_v56) = wHi z)
    (h_v58 : W (Proc.devRef .tc main_v58) = wLive z)
    (h_v64 : W (Proc.devRef .tc main_v64) = wFirstOf z)
    (h_v67 : W (Proc.devRef .tc main_v67) = cmpi .eq (iotaInDim S55 32 0)
      (broadcastInDim S55 ![] bcast_S_S55 (subi (wTotal z) (constantI S_ 32 1#32)))) :
    StableHlo.after hostOps0_13 W (Proc.devRef .tc main_v36) = wTile z ∧
    StableHlo.after hostOps0_13 W (Proc.devRef .tc main_v19) = wOwn z ∧
    StableHlo.after hostOps0_13 W (Proc.devRef .tc main_v46) = wLo z ∧
    StableHlo.after hostOps0_13 W (Proc.devRef .tc main_v56) = wHi z ∧
    StableHlo.after hostOps0_13 W (Proc.devRef .tc main_v58) = wLive z ∧
    StableHlo.after hostOps0_13 W (Proc.devRef .tc main_v64) = wFirstOf z ∧
    StableHlo.after hostOps0_13 W (Proc.devRef .tc main_v67) = cmpi .eq (iotaInDim S55 32 0)
      (broadcastInDim S55 ![] bcast_S_S55 (subi (wTotal z) (constantI S_ 32 1#32))) ∧
    StableHlo.after hostOps0_13 W (Proc.devRef .tc main_v68) = concatenate S55 0 [⟨S54, extractStridedSlice S54 ![1] (wTile z) slices_S55_S54_1⟩,
      ⟨S1, extractStridedSlice S1 ![0] (wTile z) slices_S55_S1_0⟩] concatenates_S54_S1_S55_d0 := by
  refine ⟨?_, ?_, ?_, ?_, ?_, ?_, ?_, ?_⟩
  all_goals
    after_results_simp
    try simp -implicitDefEqProofs only [StableHlo.TRef.toBuf, StableHlo.TRef.ofBuf, cast_cast, cast_eq]
    try simp only [h_v36, h_v19, h_v46, h_v56, h_v58, h_v64, h_v67]
    try with_reducible rfl
  refine cat_last ?_ ?_
  all_goals
    after_results_simp
    try simp -implicitDefEqProofs only [StableHlo.TRef.toBuf, StableHlo.TRef.ofBuf, cast_cast, cast_eq]
    simp only [h_v36]
theorem at_15 (h_v36 : W (Proc.devRef .tc main_v36) = wTile z)
    (h_v19 : W (Proc.devRef .tc main_v19) = wOwn z)
    (h_v46 : W (Proc.devRef .tc main_v46) = wLo z)
    (h_v56 : W (Proc.devRef .tc main_v56) = wHi z)
    (h_v58 : W (Proc.devRef .tc main_v58) = wLive z)
    (h_v64 : W (Proc.devRef .tc main_v64) = wFirstOf z)
    (h_v67 : W (Proc.devRef .tc main_v67) = cmpi .eq (iotaInDim S55 32 0)
      (broadcastInDim S55 ![] bcast_S_S55 (subi (wTotal z) (constantI S_ 32 1#32))))
    (h_v68 : W (Proc.devRef .tc main_v68) = concatenate S55 0 [⟨S54, extractStridedSlice S54 ![1] (wTile z) slices_S55_S54_1⟩,
      ⟨S1, extractStridedSlice S1 ![0] (wTile z) slices_S55_S1_0⟩] concatenates_S54_S1_S55_d0) :
    StableHlo.after hostOps0_14 W (Proc.devRef .tc main_v36) = wTile z ∧
    StableHlo.after hostOps0_14 W (Proc.devRef .tc main_v19) = wOwn z ∧
    StableHlo.after hostOps0_14 W (Proc.devRef .tc main_v46) = wLo z ∧
    StableHlo.after hostOps0_14 W (Proc.devRef .tc main_v56) = wHi z ∧
    StableHlo.after hostOps0_14 W (Proc.devRef .tc main_v83) = wFlag z := by
  refine ⟨?_, ?_, ?_, ?_, ?_⟩
  all_goals
    after_results_simp
    try simp -implicitDefEqProofs only [StableHlo.TRef.toBuf, StableHlo.TRef.ofBuf, cast_cast, cast_eq]
    try simp only [h_v36, h_v19, h_v46, h_v56, h_v58, h_v64, h_v67, h_v68]
    try simp only [wFlag, wLastOf, id_eq]
    try with_reducible rfl

variable (z)

/-- What the region finds in its five tables. -/
theorem tables_at (h : G (Proc.devRef .tc main_arg1) = z) :
    StableHlo.after (opss (F := F)).flatten G (Proc.devRef .tc main_v36) = wTile z ∧
    StableHlo.after (opss (F := F)).flatten G (Proc.devRef .tc main_v19) = wOwn z ∧
    StableHlo.after (opss (F := F)).flatten G (Proc.devRef .tc main_v46) = wLo z ∧
    StableHlo.after (opss (F := F)).flatten G (Proc.devRef .tc main_v56) = wHi z ∧
    StableHlo.after (opss (F := F)).flatten G (Proc.devRef .tc main_v83) = wFlag z := by
  rw [upto_all]
  obtain ⟨h1_arg1, h1_v0⟩ := at_1 (W := upto G 0) h
  obtain ⟨h2_arg1, h2_v0, h2_v1, h2_c⟩ := at_2 (W := upto G 1) h1_arg1 h1_v0
  obtain ⟨h3_arg1, h3_v0, h3_v1, h3_v2⟩ := at_3 (W := upto G 2) h2_arg1 h2_v0 h2_v1 h2_c
  obtain ⟨h4_v0, h4_v1, h4_v2, h4_v4, h4_v6, h4_c_2⟩ := at_4 (W := upto G 3) h3_arg1 h3_v0 h3_v1 h3_v2
  obtain ⟨h5_v0, h5_v1, h5_v2, h5_v4, h5_v7⟩ := at_5 (W := upto G 4) h4_v0 h4_v1 h4_v2 h4_v4 h4_v6 h4_c_2
  obtain ⟨h6_v0, h6_v1, h6_v2, h6_v4, h6_v10, h6_c_4⟩ := at_6 (W := upto G 5) h5_v0 h5_v1 h5_v2 h5_v4 h5_v7
  obtain ⟨h7_v0, h7_v1, h7_v2, h7_v11⟩ := at_7 (W := upto G 6) h6_v0 h6_v1 h6_v2 h6_v4 h6_v10 h6_c_4
  obtain ⟨h8_v0, h8_v1, h8_v2, h8_v11, h8_v12⟩ := at_8 (W := upto G 7) h7_v0 h7_v1 h7_v2 h7_v11
  obtain ⟨h9_v0, h9_v1, h9_v2, h9_v11, h9_v12, h9_v13, h9_v15, h9_v18⟩ := at_9 (W := upto G 8) h8_v0 h8_v1 h8_v2 h8_v11 h8_v12
  obtain ⟨h10_v0, h10_v1, h10_v2, h10_v11, h10_v12, h10_v13, h10_v15, h10_v18, h10_v19⟩ := at_10 (W := upto G 9) h9_v0 h9_v1 h9_v2 h9_v11 h9_v12 h9_v13 h9_v15 h9_v18
  obtain ⟨h11_v36, h11_v19, h11_v46, h11_v56, h11_v58, h11_v60, h11_v13, h11_v15⟩ := at_11 (W := upto G 10) h10_v0 h10_v1 h10_v2 h10_v11 h10_v12 h10_v13 h10_v15 h10_v18 h10_v19
  obtain ⟨h12_v36, h12_v19, h12_v46, h12_v56, h12_v58, h12_v60, h12_v61, h12_v13, h12_v15⟩ := at_12 (W := upto G 11) h11_v36 h11_v19 h11_v46 h11_v56 h11_v58 h11_v60 h11_v13 h11_v15
  obtain ⟨h13_v36, h13_v19, h13_v46, h13_v56, h13_v58, h13_v64, h13_v67⟩ := at_13 (W := upto G 12) h12_v36 h12_v19 h12_v46 h12_v56 h12_v58 h12_v60 h12_v61 h12_v13 h12_v15
  obtain ⟨h14_v36, h14_v19, h14_v46, h14_v56, h14_v58, h14_v64, h14_v67, h14_v68⟩ := at_14 (W := upto G 13) h13_v36 h13_v19 h13_v46 h13_v56 h13_v58 h13_v64 h13_v67
  exact at_15 (W := upto G 14) h14_v36 h14_v19 h14_v46 h14_v56 h14_v58 h14_v64 h14_v67 h14_v68

/-- The arguments are as they were when the last stretch starts. -/
theorem upto_arg3 : upto G 14 (Proc.devRef .tc main_arg3) = G (Proc.devRef .tc main_arg3) := by
  simp only [upto, opss, List.getD_cons_succ, List.getD_cons_zero]
  after_results_simp

/-- The fourth argument reaches the region with an axis of length one put in. -/
theorem scale_at : StableHlo.after (opss (F := F)).flatten G (Proc.devRef .tc main_v84) =
    shapeCast S25x1x1536 (G (Proc.devRef .tc main_arg3)) shapeCasts_S25x1536_S25x1x1536 := by
  rw [upto_all]
  show StableHlo.after hostOps0_14 (upto G 14) _ = _
  after_results_simp
  rw [upto_arg3]
  rfl

end Cert.Proof.Host

end
-- ==== Proof.Tables.lean ====
module

public import Mathlib.Algebra.BigOperators.Intervals
public import Mathlib.Algebra.Order.BigOperators.Group.Finset
public import Mathlib.Data.Nat.Count
@[expose] public section

/-! # The visit tables as natural numbers

`s e` is the number of rows of expert `e`. The rows of all experts lie one expert after another, `E e` being the first
row of expert `e`; they are cut into tiles of 256 rows, and expert `e` visits the `nv e` tiles it has rows in. The
visits are listed expert by expert, `V e` being the first visit of expert `e`. Nothing here mentions words or programs. -/
namespace Cert.Proof.Tables

variable (s : ℕ → ℕ)

/-- The first row of expert `e`. -/
def E (e : ℕ) : ℕ := ∑ i ∈ Finset.range e, s i
/-- The number of tiles that expert `e` has rows in. -/
def nv (e : ℕ) : ℕ := if 0 < s e then (E s (e + 1) - 1) / 256 - E s e / 256 + 1 else 0
/-- The first visit of expert `e`. -/
def V (e : ℕ) : ℕ := ∑ i ∈ Finset.range e, nv s i
/-- The visit that grid point `i` stands for: itself, or the last one when `i` is past the last. -/
def vc (i : ℕ) : ℕ := min i (V s 25 - 1)
/-- The expert of grid point `i`. -/
def own (i : ℕ) : ℕ := Nat.count (fun e => V s (e + 1) ≤ vc s i) 25
/-- The tile of grid point `i`. -/
def tile (i : ℕ) : ℕ := E s (own s i) / 256 + vc s i - V s (own s i)

theorem E_succ (e : ℕ) : E s (e + 1) = E s e + s e := Finset.sum_range_succ _ _
theorem V_succ (e : ℕ) : V s (e + 1) = V s e + nv s e := Finset.sum_range_succ _ _
theorem E_mono {a b : ℕ} (h : a ≤ b) : E s a ≤ E s b :=
  monotone_nat_of_le_succ (f := E s) (fun n => by rw [E_succ]; omega) h
theorem V_mono {a b : ℕ} (h : a ≤ b) : V s a ≤ V s b :=
  monotone_nat_of_le_succ (f := V s) (fun n => by rw [V_succ]; omega) h

/-- Experts with no visit between `a` and `b` have no row there either. -/
theorem E_eq_of_V_eq {a : ℕ} (d : ℕ) (h : V s a = V s (a + d)) : E s a = E s (a + d) := by
  induction d with
  | zero => rfl
  | succ d ih =>
    have h1 := V_mono s (show a ≤ a + d by omega)
    have h2 := V_succ s (a + d)
    have h3 : nv s (a + d) = 0 := by rw [← Nat.add_assoc] at h; omega
    have h4 : s (a + d) = 0 := by
      unfold nv at h3
      split at h3 <;> omega
    rw [ih (by rw [← Nat.add_assoc] at h; omega), ← Nat.add_assoc, E_succ, h4]; omega

/-- There are at most as many visits as tiles begun and experts passed. -/
theorem V_le (e : ℕ) : V s e ≤ E s e / 256 + e := by
  induction e with
  | zero => simp [V]
  | succ e ih =>
    have h1 := V_succ s e
    have h2 := E_succ s e
    have h3 : nv s e ≤ E s (e + 1) / 256 + 1 - E s e / 256 := by
      unfold nv
      split <;> omega
    have h4 : E s e / 256 ≤ E s (e + 1) / 256 := Nat.div_le_div_right (E_mono s (by omega))
    omega

/-- In a list of boundaries that starts at or below `x` and ends above it, some step passes `x`. -/
theorem exists_step (f : ℕ → ℕ) (x : ℕ) : ∀ n, f 0 ≤ x → x < f n → ∃ e < n, f e ≤ x ∧ x < f (e + 1)
  | 0, h0, h1 => absurd h1 (by omega)
  | n + 1, h0, h1 => by
    by_cases h : x < f n
    · obtain ⟨e, he, h2⟩ := exists_step f x n h0 h
      exact ⟨e, by omega, h2⟩
    · exact ⟨n, by omega, by omega, h1⟩

/-- Counting the boundaries at or below `x` finds the step that passes `x`. -/
theorem count_step (f : ℕ → ℕ) (hf : Monotone f) (x e n : ℕ) (he : e < n) (h0 : f e ≤ x) (h1 : x < f (e + 1)) :
    Nat.count (fun j => f (j + 1) ≤ x) n = e := by
  have key : ∀ k, k ≤ n → Nat.count (fun j => f (j + 1) ≤ x) k = min k e := by
    intro k hk
    induction k with
    | zero => simp
    | succ k ih =>
      rw [Nat.count_succ, ih (by omega)]
      by_cases hke : k < e
      · rw [if_pos (le_trans (hf (by omega)) h0)]; omega
      · rw [if_neg (by have := hf (show e + 1 ≤ k + 1 by omega); omega)]; omega
  rw [key n le_rfl]; omega

section Full
variable (hs : E s 25 = 7680)
include hs

theorem total_le : V s 25 ≤ 55 := by have := V_le s 25; omega
theorem total_pos : 0 < V s 25 := by
  by_contra h
  have h0 : V s 0 = 0 := by simp [V]
  have := E_eq_of_V_eq s (a := 0) 25 (by rw [h0]; simp only [Nat.zero_add]; omega)
  simp [E] at this
  simp [E] at hs
  omega

theorem vc_lt (i : ℕ) : vc s i < V s 25 := by have := total_pos s hs; unfold vc; omega

/-- The expert of a grid point is one of the 25, and the point's visit is one of its visits. -/
theorem own_spec (i : ℕ) : own s i < 25 ∧ V s (own s i) ≤ vc s i ∧ vc s i < V s (own s i + 1) := by
  obtain ⟨e, he, h0, h1⟩ := exists_step (V s) (vc s i) 25 (by simp [V]) (vc_lt s hs i)
  have : own s i = e := count_step (V s) (fun _ _ h => V_mono s h) _ _ _ he h0 h1
  rw [this]; exact ⟨he, h0, h1⟩

theorem own_eq {i e : ℕ} (he : e < 25) (h0 : V s e ≤ vc s i) (h1 : vc s i < V s (e + 1)) : own s i = e :=
  count_step (V s) (fun _ _ h => V_mono s h) _ _ _ he h0 h1

/-- A grid point's expert has rows; its tile lies between the tile of the expert's first row and that of its last. -/
theorem tile_spec (i : ℕ) : 0 < s (own s i) ∧ E s (own s i) / 256 ≤ tile s i
    ∧ tile s i + V s (own s i) = E s (own s i) / 256 + vc s i ∧ tile s i ≤ (E s (own s i + 1) - 1) / 256 := by
  obtain ⟨_, h0, h1⟩ := own_spec s hs i
  have h2 := V_succ s (own s i)
  have h3 : nv s (own s i) ≠ 0 := by omega
  have h4 : 0 < s (own s i) := by
    by_contra h; exact h3 (by unfold nv; rw [if_neg h])
  have h5 : nv s (own s i) = (E s (own s i + 1) - 1) / 256 - E s (own s i) / 256 + 1 := by
    unfold nv; rw [if_pos h4]
  have h6 : E s (own s i) / 256 ≤ (E s (own s i + 1) - 1) / 256 :=
    Nat.div_le_div_right (by have := E_succ s (own s i); omega)
  unfold tile
  refine ⟨h4, by omega, by omega, by omega⟩

theorem E_le {e : ℕ} (he : e ≤ 25) : E s e ≤ 7680 := hs ▸ E_mono s he

theorem tile_lt (i : ℕ) : tile s i < 30 := by
  have h := (tile_spec s hs i).2.2.2
  have h1 := E_le s hs (show own s i + 1 ≤ 25 by have := (own_spec s hs i).1; omega)
  omega

/-- From one grid point to the next the tile stays or moves to the next one. -/
theorem tile_step (i : ℕ) : tile s i ≤ tile s (i + 1) ∧ tile s (i + 1) ≤ tile s i + 1 := by
  obtain ⟨a1, a2, a3⟩ := own_spec s hs i
  obtain ⟨b1, b2, b3⟩ := own_spec s hs (i + 1)
  obtain ⟨c0, c1, c2, c3⟩ := tile_spec s hs i
  obtain ⟨d0, d1, d2, d3⟩ := tile_spec s hs (i + 1)
  have hp := total_pos s hs
  by_cases hi : V s 25 ≤ i + 1
  · have hvc : vc s (i + 1) = vc s i := by unfold vc; omega
    have ho : own s (i + 1) = own s i := by unfold own; rw [hvc]
    have ht : tile s (i + 1) = tile s i := by unfold tile; rw [ho, hvc]
    omega
  · have hvc : vc s (i + 1) = vc s i + 1 := by unfold vc; omega
    by_cases hin : vc s i + 1 < V s (own s i + 1)
    · have ho : own s (i + 1) = own s i := own_eq s hs a1 (by omega) (by omega)
      rw [ho] at d2; omega
    · have hlt : own s i + 1 ≤ own s (i + 1) := by
        by_contra h
        have := V_mono s (show own s (i + 1) + 1 ≤ own s i + 1 by omega)
        have h' := V_mono s (show own s (i + 1) ≤ own s i by omega)
        by_cases he : own s (i + 1) = own s i
        · rw [he] at b3; omega
        · have := V_mono s (show own s (i + 1) + 1 ≤ own s i by omega); omega
      have hV := V_mono s hlt
      obtain ⟨d, hd⟩ := Nat.exists_eq_add_of_le hlt
      have hE := E_eq_of_V_eq s (a := own s i + 1) d (by rw [← hd]; omega)
      rw [← hd] at hE
      have hE2 := E_succ s (own s i)
      have hn := V_succ s (own s i)
      have h5 : nv s (own s i) = (E s (own s i + 1) - 1) / 256 - E s (own s i) / 256 + 1 := by
        unfold nv; rw [if_pos c0]
      rw [← hE] at d2
      omega

theorem tile_mono {i j : ℕ} (h : i ≤ j) : tile s i ≤ tile s j :=
  monotone_nat_of_le_succ (f := tile s) (fun n => (tile_step s hs n).1) h

/-- Past the last visit the tile no longer moves. -/
theorem tile_past {i : ℕ} (h : V s 25 ≤ i + 1) : tile s (i + 1) = tile s i := by
  have hvc : vc s (i + 1) = vc s i := by unfold vc; omega
  have ho : own s (i + 1) = own s i := by unfold own; rw [hvc]
  unfold tile; rw [ho, hvc]

/-- Every row is visited: it lies in the rows of one expert, and that expert visits the row's tile. -/
theorem visit_of_row {R : ℕ} (hR : R < 7680) :
    ∃ j < V s 25, tile s j = R / 256 ∧ E s (own s j) ≤ R ∧ R < E s (own s j + 1) := by
  obtain ⟨e, he, h0, h1⟩ := exists_step (E s) R 25 (by simp [E]) (by omega)
  have hE := E_succ s e
  have hse : 0 < s e := by omega
  have hV := V_succ s e
  have hn : nv s e = (E s (e + 1) - 1) / 256 - E s e / 256 + 1 := by unfold nv; rw [if_pos hse]
  have hVm := V_mono s (show e + 1 ≤ 25 by omega)
  have hj : V s e + R / 256 - E s e / 256 < V s (e + 1) := by omega
  have hvc : vc s (V s e + R / 256 - E s e / 256) = V s e + R / 256 - E s e / 256 := by unfold vc; omega
  have ho : own s (V s e + R / 256 - E s e / 256) = e := own_eq s hs he (by rw [hvc]; omega) (by rw [hvc]; omega)
  refine ⟨V s e + R / 256 - E s e / 256, by omega, ?_, ?_, ?_⟩
  · unfold tile; rw [ho, hvc]; omega
  · rw [ho]; exact h0
  · rw [ho]; exact h1

/-- The expert whose rows hold row `R` is the only one. -/
theorem expert_unique {R a b : ℕ} (ha0 : E s a ≤ R) (ha1 : R < E s (a + 1)) (hb0 : E s b ≤ R) (hb1 : R < E s (b + 1)) : a = b := by
  rcases Nat.lt_trichotomy a b with h | h | h
  · have := E_mono s (show a + 1 ≤ b by omega); omega
  · exact h
  · have := E_mono s (show b + 1 ≤ a by omega); omega

end Full

/-- The expert whose rows hold row `R`. -/
def expert (R : ℕ) : ℕ := Nat.count (fun e => E s (e + 1) ≤ R) 25

theorem expert_eq {R e : ℕ} (he : e < 25) (h0 : E s e ≤ R) (h1 : R < E s (e + 1)) : expert s R = e :=
  count_step (E s) (fun _ _ h => E_mono s h) _ _ _ he h0 h1

theorem expert_spec (hs : E s 25 = 7680) {R : ℕ} (hR : R < 7680) :
    expert s R < 25 ∧ E s (expert s R) ≤ R ∧ R < E s (expert s R + 1) := by
  obtain ⟨e, he, h0, h1⟩ := exists_step (E s) R 25 (by simp [E]) (by omega)
  rw [expert_eq s he h0 h1]; exact ⟨he, h0, h1⟩

end Cert.Proof.Tables

end
-- ==== Proof.Facts.lean ====
module

public import proofs.«01_k».proof.Proof.Host
public import proofs.«01_k».proof.Proof.Tables
public import Idealize.ShloMosaic.Lib.Pipeline.Value
@[expose] public section
noncomputable section

/-! # The words of the tables

When the group sizes are the words of numbers `s e` that add up to the 7680 rows, the words that the host lines compute
are those of `Tables`. -/
namespace Cert.Proof.Facts

open Idealize.ShloMosaic Idealize.ShloMosaic.Routing Idealize.ShloMosaic.ValueIdx Idealize.ShloMosaic.WordCmp
open Cert.KernelIdeal Cert.KernelIdeal.Gen Cert.Proof.Host Cert.Proof.Tables

variable {z : IVec S25 32} {s : ℕ → ℕ} (hz : ∀ e : Fin 25, z (ix1 e) = BitVec.ofNat 32 (s e.val)) (hs : E s 25 = 7680)

theorem sum_range_eq (f : ℕ → ℕ) (n : ℕ) : ((List.range n).map f).sum = ∑ i ∈ Finset.range n, f i := by
  induction n with
  | zero => rfl
  | succ n ih => rw [List.range_succ, List.map_append, List.sum_append, ih, Finset.sum_range_succ]; simp

include hz in
theorem cum_at (e : Fin 25) : wCum z (ix1 e) = BitVec.ofNat 32 (∑ i ∈ Finset.range (e.val + 1), s i) := by
  rw [← sum_range_eq]
  exact cumsum1 (N := 25) (Nm1 := 24) rfl z s hz _ rfl reduceWindows_S25_S25_w25s1p24_0 h_S_ e

include hz in
theorem ends_at (e : Fin 25) : wEnds z (ix1 e) = BitVec.ofNat 32 (E s (e.val + 1)) := cum_at hz e

include hz in
theorem starts_at (e : Fin 25) : wStarts z (ix1 e) = BitVec.ofNat 32 (E s e.val) := by
  have h := E_succ s e.val
  unfold wStarts
  rw [subi_ap, ends_at hz, hz, ofNat32_sub (by omega)]
  exact congrArg (BitVec.ofNat 32) (by omega)

include hz hs in
theorem first_at (e : Fin 25) : wFirst z (ix1 e) = BitVec.ofNat 32 (E s e.val / 256) := by
  have h := E_le s hs (e := e.val) (by omega)
  exact pyDiv_ap _ _ _ _ (starts_at hz e) rfl (by omega) (by omega) (by omega)

include hz hs in
theorem last_at (e : Fin 25) (h0 : 0 < s e.val) : wLast z (ix1 e) = BitVec.ofNat 32 ((E s (e.val + 1) - 1) / 256) := by
  have h := E_le s hs (e := e.val + 1) (by omega)
  have h1 := E_succ s e.val
  refine pyDiv_ap _ _ _ _ ?_ rfl (by omega) (by omega) (by omega)
  show wEnds z (ix1 e) - BitVec.ofNat 32 1 = _
  rw [ends_at hz, ofNat32_sub (by omega)]

include hz hs in
theorem nv_at (e : Fin 25) : wNv z (ix1 e) = BitVec.ofNat 32 (nv s e.val) := by
  have h := E_le s hs (e := e.val + 1) (by omega)
  have h1 := E_succ s e.val
  show Scalar.select (IntOp.cmpi .sgt (z (ix1 e)) (BitVec.ofNat 32 0))
    ((wLast z (ix1 e) - wFirst z (ix1 e)) + BitVec.ofNat 32 1) (BitVec.ofNat 32 0) = _
  rw [hz, WordCmp.cmpi_sgt_ofNat (by omega) (by omega), WordCmp.select_decide]
  unfold nv
  split
  · next h0 =>
    have h2 : E s e.val / 256 ≤ (E s (e.val + 1) - 1) / 256 := by omega
    rw [last_at hz hs e h0, first_at hz hs, ofNat32_sub h2, BitVec.ofNat_add_ofNat]
  · rfl

include hz hs in
theorem vend_at (e : Fin 25) : wVend z (ix1 e) = BitVec.ofNat 32 (V s (e.val + 1)) := by
  unfold wVend
  exact cum_at (nv_at hz hs) e

include hz hs in
theorem vstart_at (e : Fin 25) : subi (wVend z) (wNv z) (ix1 e) = BitVec.ofNat 32 (V s e.val) := by
  have h := V_succ s e.val
  rw [subi_ap, vend_at hz hs, nv_at hz hs, ofNat32_sub (by omega)]
  exact congrArg (BitVec.ofNat 32) (by omega)

include hz hs in
theorem total_at (i : S_.Idx) : wTotal z i = BitVec.ofNat 32 (V s 25) := by
  unfold wTotal
  rw [shapeCast_apply _ _ i (ix1 (0 : Fin 1)) (by rw [eq_ix0 i]; rfl)]
  refine Eq.trans ?_ (vend_at hz hs 24)
  generalize wVend z = x
  exact slice1 (m := 25) (n := 1) 24 x slices_S25_S1_24 0 (by decide)

include hz hs in
theorem vc_at (i : Fin 55) : wVc z (ix1 i) = BitVec.ofNat 32 (vc s i.val) := by
  have h := total_le s hs
  have h0 := total_pos s hs
  show IntOp.minsi (BitVec.ofNat 32 i.val) (broadcastInDim S55 ![] bcast_S_S55 (subi (wTotal z) (constantI S_ 32 1#32)) (ix1 i)) = _
  rw [bc0]
  show IntOp.minsi (BitVec.ofNat 32 i.val) (wTotal z ix0 - BitVec.ofNat 32 1) = _
  rw [total_at hz hs, ofNat32_sub (by omega)]
  unfold IntOp.minsi vc
  rw [slt_ofNat32 (by omega) (by omega)]
  by_cases hh : i.val < V s 25 - 1
  · rw [if_pos (by simpa using hh), Nat.min_eq_left (by omega)]
  · rw [if_neg (by simpa using hh), Nat.min_eq_right (by omega)]

include hz hs in
theorem own_at (i : Fin 55) : wOwn z (ix1 i) = BitVec.ofNat 32 (own s i.val) := by
  apply BitVec.eq_of_toNat_eq
  unfold wOwn
  refine (StableHlo.Predicate.toNat_reduce_count_rows (n := 25) (m := 55) (by decide) _ natLt_1_32 reducesTo_S25x55_S55_d0 h_S_ (ix1 i)).trans ?_
  have hlt := (own_spec s hs i.val).1
  rw [BitVec.toNat_ofNat, Nat.mod_eq_of_lt (by omega)]
  unfold own
  rw [← card_filter_fin 25]
  refine congrArg Finset.card (Finset.filter_congr fun e _ => ?_)
  have hV := V_mono s (show e.val + 1 ≤ 25 by omega)
  have hT := total_le s hs
  have hvc := vc_lt s hs i.val
  rw [ij_eq_ix2]
  show IntOp.cmpi .sle (broadcastInDim S25x55 ![0, 1] bcast_S25x1_S25x55_0_1 (broadcastInDim S25x1 ![0] bcast_S25_S25x1_0 (wVend z)) (ix2 e i))
    (broadcastInDim S25x55 ![0, 1] bcast_S1x55_S25x55_0_1 (broadcastInDim S1x55 ![1] bcast_S55_S1x55_1 (wVc z)) (ix2 e i)) = 1#1 ↔ _
  rw [show broadcastInDim S25x55 ![0, 1] bcast_S25x1_S25x55_0_1 (broadcastInDim S25x1 ![0] bcast_S25_S25x1_0 (wVend z)) (ix2 e i) = _
      from bcRows (n := 25) (m := 55) _ _ _ e i,
    show broadcastInDim S25x55 ![0, 1] bcast_S1x55_S25x55_0_1 (broadcastInDim S1x55 ![1] bcast_S55_S1x55_1 (wVc z)) (ix2 e i) = _
      from bcCols (n := 25) (m := 55) _ _ _ e i,
    vend_at hz hs, vc_at hz hs, WordCmp.cmpi_sle_ofNat_eq_one_iff (by omega) (by omega)]

include hz hs in
/-- A table of the experts is read at the grid point's expert. -/
theorem take_at (x : IVec S25 32) (i : Fin 55) : wTake x z (ix1 i) = x (ix1 ⟨own s i.val, (own_spec s hs i.val).1⟩) := by
  have hlt := (own_spec s hs i.val).1
  refine gather_take1 (N := 25) (n := 55) _ rfl rfl rfl rfl x _ i ⟨own s i.val, hlt⟩ ?_ (by decide)
  refine (bcCol (n := 55) _ _ i).trans ?_
  show Scalar.select (IntOp.cmpi .slt (wOwn z (ix1 i)) 0#32) _ (wOwn z (ix1 i)) = _
  rw [wrap_of_lt _ _ (by rw [own_at hz hs, BitVec.toNat_ofNat, Nat.mod_eq_of_lt (by omega)]; omega), own_at hz hs]

include hz hs in
theorem tile_at (i : Fin 55) : wTile z (ix1 i) = BitVec.ofNat 32 (tile s i.val) := by
  have h := (tile_spec s hs i.val).2.2.1
  show (wTake (wFirst z) z (ix1 i) + wVc z (ix1 i)) - wTake (subi (wVend z) (wNv z)) z (ix1 i) = _
  rw [take_at hz hs, take_at hz hs, first_at hz hs, vc_at hz hs, vstart_at hz hs, BitVec.ofNat_add_ofNat,
    ofNat32_sub (by dsimp only; omega)]
  rfl

/-- The difference of two small words, read signed. -/
theorem toInt_sub {a b : ℕ} (ha : a < 2 ^ 30) (hb : b < 2 ^ 30) :
    (BitVec.ofNat 32 a - BitVec.ofNat 32 b).toInt = (a : ℤ) - b := by
  rw [BitVec.toInt_sub, WordCmp.toInt_ofNat_of_lt (by omega), WordCmp.toInt_ofNat_of_lt (by omega)]
  rw [Int.bmod_def]
  omega

include hz hs in
theorem lo_at (i : Fin 55) : (wLo z (ix1 i)).toInt = (E s (own s i.val) : ℤ) - 256 * tile s i.val := by
  have hlt := (own_spec s hs i.val).1
  have h := tile_lt s hs i.val
  have h2 := E_le s hs (e := own s i.val) (by omega)
  show (wTake (wStarts z) z (ix1 i) - wTile z (ix1 i) * BitVec.ofNat 32 256).toInt = _
  rw [take_at hz hs, starts_at hz, tile_at hz hs, BitVec.ofNat_mul_ofNat, toInt_sub (by dsimp only; omega) (by omega)]
  push_cast; ring

include hz hs in
theorem hi_at (i : Fin 55) : (wHi z (ix1 i)).toInt = (E s (own s i.val + 1) : ℤ) - 256 * tile s i.val := by
  have hlt := (own_spec s hs i.val).1
  have h := tile_lt s hs i.val
  have h2 := E_le s hs (e := own s i.val + 1) (by omega)
  show (wTake (wEnds z) z (ix1 i) - wTile z (ix1 i) * BitVec.ofNat 32 256).toInt = _
  rw [take_at hz hs, ends_at hz, tile_at hz hs, BitVec.ofNat_mul_ofNat, toInt_sub (by dsimp only; omega) (by omega)]
  push_cast; ring

/-- A grid point is a visit, -/
def live (s : ℕ → ℕ) (i : ℕ) : Prop := i < V s 25
/-- the first one of its tile, -/
def firstOf (s : ℕ → ℕ) (i : ℕ) : Prop := live s i ∧ (i = 0 ∨ tile s i ≠ tile s (i - 1))
/-- the last one of its tile. -/
def lastOf (s : ℕ → ℕ) (i : ℕ) : Prop := live s i ∧ (i = V s 25 - 1 ∨ tile s i ≠ tile s (i + 1))

include hz hs in
theorem live_at (i : Fin 55) : wLive z (ix1 i) = 1#1 ↔ live s i.val := by
  have h := total_le s hs
  show IntOp.cmpi .slt (BitVec.ofNat 32 i.val) (broadcastInDim S55 ![] bcast_S_S55 (wTotal z) (ix1 i)) = 1#1 ↔ _
  rw [bc0, total_at hz hs, WordCmp.cmpi_slt_ofNat_eq_one_iff (by omega) (by omega)]
  rfl

theorem andi_one (a b : BitVec 1) : IntOp.andi a b = 1#1 ↔ a = 1#1 ∧ b = 1#1 := by
  revert a b; decide
theorem ori_one (a b : BitVec 1) : IntOp.ori a b = 1#1 ↔ a = 1#1 ∨ b = 1#1 := by
  revert a b; decide

include hz hs in
theorem firstOf_at (i : Fin 55) : wFirstOf z (ix1 i) = 1#1 ↔ firstOf s i.val := by
  unfold wFirstOf firstOf
  rw [andi_at, andi_one, ori_at, ori_one, live_at hz hs]
  refine and_congr_right fun hl => ?_
  rw [show cmpi .eq (iotaInDim S55 32 0) (bc55 0#32) (ix1 i) = IntOp.cmpi .eq (BitVec.ofNat 32 i.val) (BitVec.ofNat 32 0) from rfl,
    WordCmp.cmpi_eq_ofNat_eq_one_iff (by omega) (by omega)]
  by_cases h0 : i.val = 0
  · simp only [h0, true_or]
  · refine or_congr_right ?_
    have ht := tile_lt s hs i.val
    have ht' := tile_lt s hs (i.val - 1)
    rw [cmpi_at, concatenate_pair_apply_right 0 _ _ concatenates_S1_S54_S55_d0 (ix1 i) rfl rfl (ix1 (⟨i.val - 1, by omega⟩ : Fin 54))
        (fun b hb => absurd (Fin.ext (Nat.lt_one_iff.1 b.isLt)) hb) (by show i.val - 1 + 1 = i.val; omega),
      show extractStridedSlice S54 ![0] (wTile z) slices_S55_S54_0 (ix1 (⟨i.val - 1, by omega⟩ : Fin 54)) = _ from
        slice1 (m := 55) (n := 54) 0 _ _ _ (by show 0 + (i.val - 1) < 55; omega)]
    rw [tile_at hz hs, tile_at hz hs, WordCmp.cmpi_ne_ofNat_eq_one_iff (by omega) (by simp only [Nat.zero_add]; omega)]
    simp only [Nat.zero_add]

include hz hs in
theorem lastOf_at (i : Fin 55) : wLastOf z (ix1 i) = 1#1 ↔ lastOf s i.val := by
  unfold wLastOf lastOf
  rw [andi_at, andi_one, ori_at, ori_one, live_at hz hs]
  refine and_congr_right fun hl => ?_
  have hT := total_le s hs
  have hT0 := total_pos s hs
  have hl' : i.val < V s 25 := hl
  rw [cmpi_at, bc0, show subi (wTotal z) (constantI S_ 32 1#32) ix0 = BitVec.ofNat 32 (V s 25 - 1) by
      show wTotal z ix0 - BitVec.ofNat 32 1 = _
      rw [total_at hz hs, ofNat32_sub (by omega)],
    show iotaInDim S55 32 0 (ix1 i) = BitVec.ofNat 32 i.val from rfl, WordCmp.cmpi_eq_ofNat_eq_one_iff (by omega) (by omega)]
  by_cases h0 : i.val = V s 25 - 1
  · simp only [h0, true_or]
  · refine or_congr_right ?_
    have ht := tile_lt s hs i.val
    have ht' := tile_lt s hs (i.val + 1)
    rw [cmpi_at, concatenate_pair_apply_left 0 _ _ concatenates_S54_S1_S55_d0 (ix1 i) rfl (ix1 (⟨i.val, by omega⟩ : Fin 54))
        (fun b => by obtain rfl : b = 0 := Fin.ext (Nat.lt_one_iff.1 b.isLt); rfl),
      show extractStridedSlice S54 ![1] (wTile z) slices_S55_S54_1 (ix1 (⟨i.val, by omega⟩ : Fin 54)) = _ from
        slice1 (m := 55) (n := 54) 1 _ _ _ (by show 1 + i.val < 55; omega)]
    rw [tile_at hz hs, tile_at hz hs, WordCmp.cmpi_ne_ofNat_eq_one_iff (by omega) (by dsimp only; rw [Nat.add_comm 1]; omega)]
    simp only [Nat.add_comm 1]

open Classical in
include hz hs in
/-- The three bits of the flag word. -/
theorem flag_at (i : Fin 55) : wFlag z (ix1 i)
    = BitVec.ofNat 32 ((if firstOf s i.val then 1 else 0) + (if lastOf s i.val then 2 else 0) + (if live s i.val then 4 else 0)) := by
  have key : ∀ a b c : BitVec 1, ((a.setWidth 32 * 1#32 + b.setWidth 32 * 2#32) + c.setWidth 32 * 4#32 : BitVec 32)
      = BitVec.ofNat 32 ((if a = 1#1 then 1 else 0) + (if b = 1#1 then 2 else 0) + (if c = 1#1 then 4 else 0)) := by decide
  refine (key (wFirstOf z (ix1 i)) (wLastOf z (ix1 i)) (wLive z (ix1 i))).trans ?_
  simp only [firstOf_at hz hs, lastOf_at hz hs, live_at hz hs]

end Cert.Proof.Facts

end
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp
@[expose] public section
set_option maxRecDepth 16384
noncomputable section
/-! # One call of the kernel body

What the body leaves in every buffer, given what it finds: the codes and scales of the tile are made where the flag
word's first bit is set, an expert's rows are accumulated where its third bit is, and the results are written where
its second bit is. Everything is stated by the payloads the printed body stores. -/
namespace Cert.Proof.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ

/-- The word of a table at a grid point. -/
def word (T : Vec F S55 .i32) (i : grid0.Coords) : BitVec 32 :=
  T ((Rect.unit (s := S55) (k0_off1 i) S1.size (k0_off1_inb i)).emb (Shape.Idx.first (numel1_S1.symm ▸ Nat.one_pos)))

/-- A bit of the flag word, as the kernel tests it. -/
def bit (w k : BitVec 32) : BitVec 1 := Scalar.cmpi .ne (Scalar.extui (Scalar.cmpi .ne (Scalar.andi w k) 0#32)) 0#32

/-- The tile's codes and its scales, from the tile of `dy`. -/
def codesOf (x : Vec F S256x5120 .bf16) : Vec F S256x5120 .fp8e5m2 :=
  k0_pay2 (k0_pay7 x) (k0_pay8 x) (k0_pay27 (k0_pay8 x) (k0_pay16 x) (k0_pay17 x) (k0_pay18 x) (Scalar.ofBits .f32 0x2F800000#32))
    (k0_pay28 (k0_pay8 x) (k0_pay18 x)) (Scalar.ofBits .f32 0x3F000000#32)
def dysOf (x : Vec F S256x5120 .bf16) : Vec F S256x128 .f32 := k0_pay3 (k0_pay8 x) (k0_pay29 (k0_pay8 x) (k0_pay18 x))
/-- The first column of the scales. -/
def col (x : Vec F S256x128 .f32) : Vec F S256x1 .f32 := View.ld x (Rect.unit (s := S256x128) ![0, 0] S256x1.size inb_S256x128_S256x1_0_0)

/-! The results of a tile, from the accumulated rows and the tiles of `g` and `u`. -/
abbrev e91 (p : Vec F S256x1536 .f32) (g u : Vec F S256x1536 .bf16) : Vec F S256x1 .f32 :=
  k0_pay48 (k0_pay34 p g u) k0_pay36 (k0_pay37 p g u) (k0_pay38 p g u) k0_pay39
abbrev e94 (p : Vec F S256x1536 .f32) (g u : Vec F S256x1536 .bf16) : IVec S256x1 1 := k0_pay49 (k0_pay34 p g u) (k0_pay38 p g u)
abbrev e97 (p : Vec F S256x1536 .f32) (g u : Vec F S256x1536 .bf16) : Vec F S256x1 .f32 := k0_pay50 (k0_pay34 p g u) (k0_pay38 p g u)
abbrev e99 (p : Vec F S256x1536 .f32) (g u : Vec F S256x1536 .bf16) : Vec F S256x1 .f32 :=
  k0_pay51 (k0_pay34 p g u) k0_pay36 (k0_pay37 p g u) (k0_pay38 p g u) k0_pay39
def scaleOf (p : Vec F S256x1536 .f32) (g u : Vec F S256x1536 .bf16) : Vec F S256x1 .f32 := k0_pay58 (k0_pay34 p g u) (e97 p g u)
def slab0 (p : Vec F S256x1536 .f32) (g u : Vec F S256x1536 .bf16) : Vec F S1x256x1536 .fp8e5m2 :=
  k0_pay5 (k0_pay60 (k0_pay32 p g u) (k0_pay34 p g u) (e91 p g u) (e94 p g u) (e97 p g u) (e99 p g u))
def slab1 (p : Vec F S256x1536 .f32) (g u : Vec F S256x1536 .bf16) : Vec F S1x256x1536 .fp8e5m2 :=
  k0_pay6 (k0_pay33 p g) (k0_pay59 (k0_pay34 p g u) (e91 p g u) (e94 p g u) (e97 p g u) (e99 p g u))
abbrev rect1 : Rect S2x256x1536 := Rect.unit (s := S2x256x1536) ![1, 0, 0] S1x256x1536.size inb_S2x256x1536_S1x256x1536_1_0_0
abbrev rect0 : Rect S2x256x1536 := Rect.unit (s := S2x256x1536) ![0, 0, 0] S1x256x1536.size inb_S2x256x1536_S1x256x1536_0_0_0
def outOf (p : Vec F S256x1536 .f32) (g u : Vec F S256x1536 .bf16) : Vec F S2x256x1536 .fp8e5m2 :=
  View.canon [⟨rect1, slab1 p g u⟩, ⟨rect0, slab0 p g u⟩]
theorem cover (p0 p1 : Vec F S1x256x1536 .fp8e5m2) (y : S2x256x1536.Idx) :
    ∃ pc ∈ ([⟨rect1, p0⟩, ⟨rect0, p1⟩] : List (View.Piece (Elt F) S2x256x1536 .fp8e5m2)), y ∈ pc.1.set :=
  View.cover_of_tiled [⟨rect1, p0⟩, ⟨rect0, p1⟩] S1x256x1536.size (by rfl) y

/-! What one call leaves in the buffers. -/
def codesNext (w : BitVec 32) (x6 : Vec F S256x5120 .bf16) (x13 : Vec F S256x5120 .fp8e5m2) := if bit w 1#32 = 1#1 then codesOf x6 else x13
def dysNext (w : BitVec 32) (x6 : Vec F S256x5120 .bf16) (x14 : Vec F S256x128 .f32) := if bit w 1#32 = 1#1 then dysOf x6 else x14
def pNext (lo hi w : BitVec 32) (x6 : Vec F S256x5120 .bf16) (x7 : Vec F S1x1536x5120 .fp8e4m3) (x8 : Vec F S1x1x1536 .f32)
    (x13 : Vec F S256x5120 .fp8e5m2) (x14 : Vec F S256x128 .f32) (x15 : Vec F S256x1536 .f32) : Vec F S256x1536 .f32 :=
  if bit w 4#32 = 1#1 then k0_pay4 (codesNext w x6 x13) x7 (col (dysNext w x6 x14)) x8 lo hi x15 else x15
def outNext (w : BitVec 32) (p : Vec F S256x1536 .f32) (g u : Vec F S256x1536 .bf16) (x11 : Vec F S2x256x1536 .fp8e5m2) :=
  if bit w 2#32 = 1#1 then outOf p g u else x11
def scaleNext (w : BitVec 32) (p : Vec F S256x1536 .f32) (g u : Vec F S256x1536 .bf16) (x12 : Vec F S256x1 .f32) :=
  if bit w 2#32 = 1#1 then scaleOf p g u else x12

section Reads
variable {κ : Kind} {sp : Space} {s : Shape} {e : EltTy}
/-- What a buffer reads after a store over all of it that was made or not. -/
theorem read_ite (v : View sig κ sp s e) (f : v.ty.Contents (Elt F)) (C : Prop) [Decidable C] {off : Fin s.rank → Nat} (h : off = fun _ => 0)
    (inb : ∀ a, off a + s.size a ≤ s.size a) (w : s.Idx → Elt F e) :
    v.read (Elt F) (if hc : C then v.writes (Elt F) f [(⟨Rect.unit off s.size inb, w⟩ : View.Piece (Elt F) s e)] else f)
      = if C then w else v.read (Elt F) f := by
  by_cases hC : C
  · rw [dif_pos hC, if_pos hC, View.read_writes_eq_canon _ _ _ (fun y => ⟨_, List.mem_singleton_self _, View.mem_set_unit_zero h inb y⟩),
      View.canon_unit_zero h]
  · rw [dif_neg hC, if_neg hC]
end Reads

theorem z2 : (![0, 0] : Fin 2 → Nat) = fun _ => 0 := by funext a; fin_cases a <;> rfl
theorem z3 : (![0, 0, 0] : Fin 3 → Nat) = fun _ => 0 := by funext a; fin_cases a <;> rfl

set_option maxHeartbeats 2000000 in
/-- One call of the body. -/
theorem sound (c : Dev nD) (E : Set ℕ) (i : grid0.Coords) (arg1 : Memref sig .tc .smem S55 .i32) (harg1 : arg1.IsWhole)
    (arg2 : Memref sig .tc .smem S55 .i32) (harg2 : arg2.IsWhole)
    (arg3 : Memref sig .tc .smem S55 .i32) (harg3 : arg3.IsWhole)
    (arg4 : Memref sig .tc .smem S55 .i32) (harg4 : arg4.IsWhole)
    (arg5 : Memref sig .tc .smem S55 .i32) (harg5 : arg5.IsWhole)
    (arg6 : Memref sig .tc .vmem S256x5120 .bf16) (harg6 : arg6.IsWhole)
    (arg7 : Memref sig .tc .vmem S1x1536x5120 .fp8e4m3) (harg7 : arg7.IsWhole)
    (arg8 : Memref sig .tc .vmem S1x1x1536 .f32) (harg8 : arg8.IsWhole)
    (arg9 : Memref sig .tc .vmem S256x1536 .bf16) (harg9 : arg9.IsWhole)
    (arg10 : Memref sig .tc .vmem S256x1536 .bf16) (harg10 : arg10.IsWhole)
    (arg11 : Memref sig .tc .vmem S2x256x1536 .fp8e5m2) (harg11 : arg11.IsWhole)
    (arg12 : Memref sig .tc .vmem S256x1 .f32) (harg12 : arg12.IsWhole)
    (arg13 : Memref sig .tc .vmem S256x5120 .fp8e5m2) (harg13 : arg13.IsWhole)
    (arg14 : Memref sig .tc .vmem S256x128 .f32) (harg14 : arg14.IsWhole)
    (arg15 : Memref sig .tc .vmem S256x1536 .f32) (harg15 : arg15.IsWhole)
    (q : PosShare TreeShare) (x3 : Vec F S55 .i32) (x4 : Vec F S55 .i32) (x5 : Vec F S55 .i32) (x6 : Vec F S256x5120 .bf16) (x7 : Vec F S1x1536x5120 .fp8e4m3) (x8 : Vec F S1x1x1536 .f32) (x9 : Vec F S256x1536 .bf16) (x10 : Vec F S256x1536 .bf16) (x11 : Vec F S2x256x1536 .fp8e5m2) (x12 : Vec F S256x1 .f32) (x13 : Vec F S256x5120 .fp8e5m2) (x14 : Vec F S256x128 .f32) (x15 : Vec F S256x1536 .f32) (K : PUnit → sProp 𝕄) :
    iprop(owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg3 q x3 ∗ owns (c : Thread nD τ) arg4 q x4 ∗ owns (c : Thread nD τ) arg5 q x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outNext (word x5 i) (pNext (word x3 i) (word x4 i) (word x5 i) x6 x7 x8 x13 x14 x15) x9 x10 x11) ∗ owns (c : Thread nD τ) arg12 fullShare (scaleNext (word x5 i) (pNext (word x3 i) (word x4 i) (word x5 i) x6 x7 x8 x13 x14 x15) x9 x10 x12) ∗ owns (c : Thread nD τ) arg13 fullShare (codesNext (word x5 i) x6 x13) ∗ owns (c : Thread nD τ) arg14 fullShare (dysNext (word x5 i) x6 x14) ∗ owns (c : Thread nD τ) arg15 fullShare (pNext (word x3 i) (word x4 i) (word x5 i) x6 x7 x8 x13 x14 x15)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  subst hf3 hf4 hf5 hf6 hf7 hf8 hf9 hf10 hf11 hf12 hf13 hf14 hf15
  sl_exec
  sl_step
  have e6 : View.readAt (Elt F) arg6.view (Rect.unit (s := S256x5120) ![0, 0] S256x5120.size inb_S256x5120_S256x5120_0_0).toLoadRect f6
      = View.read (Elt F) arg6.view f6 := View.ld_unit_zero z2 _ _
  have e7 : View.readAt (Elt F) arg7.view (Rect.unit (s := S1x1536x5120) ![0, 0, 0] S1x1536x5120.size inb_S1x1536x5120_S1x1536x5120_0_0_0).toLoadRect f7
      = View.read (Elt F) arg7.view f7 := View.ld_unit_zero z3 _ _
  have e8 : View.readAt (Elt F) arg8.view (Rect.unit (s := S1x1x1536) ![0, 0, 0] S1x1x1536.size inb_S1x1x1536_S1x1x1536_0_0_0).toLoadRect f8
      = View.read (Elt F) arg8.view f8 := View.ld_unit_zero z3 _ _
  have e9 : View.readAt (Elt F) arg9.view (Rect.unit (s := S256x1536) ![0, 0] S256x1536.size inb_S256x1536_S256x1536_0_0).toLoadRect f9
      = View.read (Elt F) arg9.view f9 := View.ld_unit_zero z2 _ _
  have e10 : View.readAt (Elt F) arg10.view (Rect.unit (s := S256x1536) ![0, 0] S256x1536.size inb_S256x1536_S256x1536_0_0).toLoadRect f10
      = View.read (Elt F) arg10.view f10 := View.ld_unit_zero z2 _ _
  have e15 : View.readAt (Elt F) arg15.view (Rect.unit (s := S256x1536) ![0, 0] S256x1536.size inb_S256x1536_S256x1536_0_0).toLoadRect f15
      = View.read (Elt F) arg15.view f15 := View.ld_unit_zero z2 _ _
  have h14 : sound.sl.v14 c i arg5 arg6 arg13 f5 f6 f13
      = codesNext (word (View.read (Elt F) arg5.view f5) i) (View.read (Elt F) arg6.view f6) (View.read (Elt F) arg13.view f13) := by
    refine (View.ld_unit_zero z2 _ _).trans ((read_ite _ _ _ z2 _ _).trans ?_)
    rw [← e6]; rfl
  have hd : View.read (Elt F) arg14.view (if hc : bit (sound.sl.r c i arg5 f5) 1#32 = 1#1 then arg14.view.writes (Elt F) f14
      [⟨Rect.unit (s := S256x128) ![0, 0] S256x128.size inb_S256x128_S256x128_0_0, k0_pay3 (sound.sl.r_2 c arg6 f6) (sound.sl.r_8 c arg6 f6)⟩] else f14)
      = dysNext (word (View.read (Elt F) arg5.view f5) i) (View.read (Elt F) arg6.view f6) (View.read (Elt F) arg14.view f14) := by
    refine (read_ite _ _ _ z2 _ _).trans ?_
    rw [← e6]; rfl
  have h18 : sound.sl.v18 c i arg5 arg6 arg14 f5 f6 f14
      = col (dysNext (word (View.read (Elt F) arg5.view f5) i) (View.read (Elt F) arg6.view f6) (View.read (Elt F) arg14.view f14)) :=
    congrArg col hd
  have h15 : sound.sl.v14_1 c i arg3 arg4 arg5 arg6 arg7 arg8 arg13 arg14 arg15 f3 f4 f5 f6 f7 f8 f13 f14 f15
      = pNext (word (View.read (Elt F) arg3.view f3) i) (word (View.read (Elt F) arg4.view f4) i) (word (View.read (Elt F) arg5.view f5) i)
        (View.read (Elt F) arg6.view f6) (View.read (Elt F) arg7.view f7) (View.read (Elt F) arg8.view f8)
        (View.read (Elt F) arg13.view f13) (View.read (Elt F) arg14.view f14) (View.read (Elt F) arg15.view f15) := by
    refine (View.ld_unit_zero z2 _ _).trans ((read_ite _ _ _ z2 _ _).trans ?_)
    unfold pNext
    rw [← h14, ← h18, ← e7, ← e8, ← e15]; rfl
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro
    rw [← h15, ← e9, ← e10]
    unfold outNext
    by_cases hC : bit (word (View.read (Elt F) arg5.view f5) i) 2#32 = 1#1
    · rw [if_pos hC]
      refine (congrArg (View.read (Elt F) arg11.view) (dif_pos hC)).trans ?_
      exact View.read_writes_eq_canon _ _ _ (cover _ _)
    · rw [if_neg hC]
      exact congrArg (View.read (Elt F) arg11.view) (dif_neg hC)
  isplitl [H12]
  · iexists _; isplitr; swap; · iexact H12
    ipureintro
    rw [← h15, ← e9, ← e10]
    exact read_ite _ _ _ z2 _ _
  isplitl [H13]
  · iexists _; isplitr; swap; · iexact H13
    ipureintro; exact (View.ld_unit_zero z2 inb_S256x5120_S256x5120_0_0 _).symm.trans h14
  isplitl [H14]
  · iexists _; isplitr; swap; · iexact H14
    ipureintro; exact hd
  iexists _; isplitr; swap; · iexact H15
  ipureintro; exact (View.ld_unit_zero z2 inb_S256x1536_S256x1536_0_0 _).symm.trans h15
end Cert.Proof.Body
-- ==== Proof.Points.lean ====
module

public import proofs.«01_k».proof.Proof.Facts
public import proofs.«01_k».proof.Proof.Body
@[expose] public section
set_option maxRecDepth 16384
noncomputable section

/-! # The grid points

What the tables say at a grid point: which tile and which expert its windows stage, and what the bits of its flag
word are. The blocks named so lie inside their arrays. -/
namespace Cert.Proof.Points

open Idealize.ShloMosaic Idealize.ShloMosaic.ValueIdx Idealize.ShloMosaic.WordCmp
open Cert.KernelIdeal Cert.KernelIdeal.Gen Cert.Proof.Host Cert.Proof.Tables Cert.Proof.Facts Cert.Proof.Body

variable {F : FTy → Type} [FloatOps F]

/-- The contents of the five tables. -/
def tbl (z : IVec S25 32) : pre0.Contents (Elt F) := fun
  | 0 => wTile z | 1 => wOwn z | 2 => wLo z | 3 => wHi z | 4 => wFlag z | ⟨_ + 5, h⟩ => absurd h (Nat.not_lt.2 (Nat.le_add_left _ _))

/-- The number of a grid point, from its coordinates. -/
def num (i : grid0.Coords) : Fin 55 := ⟨(i 0).val, (i 0).isLt⟩

theorem num_coords (t : Fin grid0.N) : (num (grid0.coords t)).val = t.val := by
  show (grid0.coords t 0).val = t.val
  rw [Pipeline.Grid.coords_val t 0 (S := 1) (B := 55) rfl rfl, Nat.div_one]
  exact Nat.mod_eq_of_lt (N_0 ▸ t.isLt)

theorem off_eq (i : grid0.Coords) : k0_off1 i 0 = (num i).val := by
  have h := (num i).isLt
  show (BitVec.ofNat 32 (i 0).val).toNat = (i 0).val
  rw [BitVec.toNat_ofNat]
  exact Nat.mod_eq_of_lt (lt_of_lt_of_le h (by norm_num))

/-- The word that the kernel reads of a table at a grid point. -/
theorem word_eq (T : Vec F S55 .i32) (i : grid0.Coords) : word T i = T (ix1 (num i)) := by
  unfold word
  congr 1
  funext a
  match a with
  | ⟨0, _⟩ =>
    refine Fin.ext ?_
    show k0_off1 i 0 + 1 * (Shape.Idx.first (s := S1) _ 0).val = (num i).val
    have h0 : (Shape.Idx.first (s := S1) (numel1_S1.symm ▸ Nat.one_pos) 0).val = 0 := Nat.lt_one_iff.1 (Fin.isLt _)
    rw [off_eq, h0]; omega

theorem atD_flag (z : IVec S25 32) (i : grid0.Coords) : (tbl (F := F) z).atD 4 (k0_off1 i) = wFlag z (ix1 (num i)) := by
  have hh : ∀ a : Fin 1, k0_off1 i a + 1 ≤ S55.size a := fun a => by
    match a with
    | ⟨0, _⟩ => exact (off_eq i).symm ▸ (num i).isLt
  refine (dif_pos hh).trans ?_
  show wFlag z _ = _
  congr 1
  funext a
  match a with
  | ⟨0, _⟩ => exact Fin.ext (off_eq i)

variable {z : IVec S25 32} {s : ℕ → ℕ} (hz : ∀ e : Fin 25, z (ix1 e) = BitVec.ofNat 32 (s e.val)) (hs : E s 25 = 7680)
include hz hs

theorem toNat_tile (i : Fin 55) : (wTile z (ix1 i)).toNat = tile s i.val := by
  rw [tile_at hz hs, BitVec.toNat_ofNat]
  exact Nat.mod_eq_of_lt (lt_trans (tile_lt s hs i.val) (by norm_num))

theorem toNat_own (i : Fin 55) : (wOwn z (ix1 i)).toNat = own s i.val := by
  rw [own_at hz hs, BitVec.toNat_ofNat]
  exact Nat.mod_eq_of_lt (lt_trans (own_spec s hs i.val).1 (by norm_num))

/-! The block of each window at a grid point. -/

theorem tr0 (i : grid0.Coords) : cc0_transform_0 k0_off1_inb numel1_S1 (tbl (F := F) z) i = ![tile s (num i).val, 0] := by
  rw [← toNat_tile hz hs, ← word_eq (F := F) (wTile z) i]; rfl
theorem tr1 (i : grid0.Coords) : cc0_transform_1 k0_off1_inb numel1_S1 (tbl (F := F) z) i = ![own s (num i).val, 0, 0] := by
  rw [← toNat_own hz hs, ← word_eq (F := F) (wOwn z) i]; rfl
theorem tr2 (i : grid0.Coords) : cc0_transform_2 k0_off1_inb numel1_S1 (tbl (F := F) z) i = ![own s (num i).val, 0, 0] := by
  rw [← toNat_own hz hs, ← word_eq (F := F) (wOwn z) i]; rfl
theorem tr3 (i : grid0.Coords) : cc0_transform_3 k0_off1_inb numel1_S1 (tbl (F := F) z) i = ![tile s (num i).val, 0] := by
  rw [← toNat_tile hz hs, ← word_eq (F := F) (wTile z) i]; rfl
theorem tr4 (i : grid0.Coords) : cc0_transform_4 k0_off1_inb numel1_S1 (tbl (F := F) z) i = ![tile s (num i).val, 0] := by
  rw [← toNat_tile hz hs, ← word_eq (F := F) (wTile z) i]; rfl
theorem tr5 (i : grid0.Coords) : cc0_transform_5 k0_off1_inb numel1_S1 (tbl (F := F) z) i = ![0, tile s (num i).val, 0] := by
  rw [← toNat_tile hz hs, ← word_eq (F := F) (wTile z) i]; rfl
theorem tr6 (i : grid0.Coords) : cc0_transform_6 k0_off1_inb numel1_S1 (tbl (F := F) z) i = ![tile s (num i).val, 0] := by
  rw [← toNat_tile hz hs, ← word_eq (F := F) (wTile z) i]; rfl

/-- The blocks lie inside their arrays and are moved in whole words. -/
theorem ok : ok0 (tbl (F := F) z) := by
  have ht := fun i : grid0.Coords => tile_lt s hs (num i).val
  have he := fun i : grid0.Coords => (own_spec s hs (num i).val).1
  refine ⟨fun i => ⟨fun a => ?_, .inr (.inl (.inr ⟨by decide, rfl, .inl ⟨?_, ?_⟩⟩))⟩,
    fun i => ⟨fun a => ?_, .inr (.inr ⟨by decide, rfl, ?_, rfl⟩)⟩,
    fun i => ⟨fun a => ?_, .inl rfl⟩,
    fun i => ⟨fun a => ?_, .inr (.inl (.inr ⟨by decide, rfl, .inl ⟨?_, ?_⟩⟩))⟩,
    fun i => ⟨fun a => ?_, .inr (.inl (.inr ⟨by decide, rfl, .inl ⟨?_, ?_⟩⟩))⟩,
    fun i => ⟨fun a => ?_, .inr (.inl (.inr ⟨by decide, rfl, .inl ⟨?_, ?_⟩⟩))⟩,
    fun i => ⟨fun a => ?_, .inl rfl⟩⟩
  · rw [tr0 hz hs]; have := ht i
    match a with
    | ⟨0, _⟩ => show (tile s (num i).val + 1) * 256 ≤ 7680; omega
    | ⟨1, _⟩ => show (0 + 1) * 5120 ≤ 5120; omega
  · exact Dvd.dvd.mul_left (b := 256) ⟨128, rfl⟩ (cc0_transform_0 k0_off1_inb numel1_S1 (tbl (F := F) z) i 0)
  · exact ⟨128, rfl⟩
  · rw [tr1 hz hs]; have := he i
    match a with
    | ⟨0, _⟩ => show (own s (num i).val + 1) * 1 ≤ 25; omega
    | ⟨1, _⟩ => show (0 + 1) * 1536 ≤ 1536; omega
    | ⟨2, _⟩ => show (0 + 1) * 5120 ≤ 5120; omega
  · rfl
  · rw [tr2 hz hs]; have := he i
    match a with
    | ⟨0, _⟩ => show (own s (num i).val + 1) * 1 ≤ 25; omega
    | ⟨1, _⟩ => show (0 + 1) * 1 ≤ 1; omega
    | ⟨2, _⟩ => show (0 + 1) * 1536 ≤ 1536; omega
  · rw [tr3 hz hs]; have := ht i
    match a with
    | ⟨0, _⟩ => show (tile s (num i).val + 1) * 256 ≤ 7680; omega
    | ⟨1, _⟩ => show (0 + 1) * 1536 ≤ 1536; omega
  · exact Dvd.dvd.mul_left (b := 256) ⟨128, rfl⟩ (cc0_transform_3 k0_off1_inb numel1_S1 (tbl (F := F) z) i 0)
  · exact ⟨128, rfl⟩
  · rw [tr4 hz hs]; have := ht i
    match a with
    | ⟨0, _⟩ => show (tile s (num i).val + 1) * 256 ≤ 7680; omega
    | ⟨1, _⟩ => show (0 + 1) * 1536 ≤ 1536; omega
  · exact Dvd.dvd.mul_left (b := 256) ⟨128, rfl⟩ (cc0_transform_4 k0_off1_inb numel1_S1 (tbl (F := F) z) i 0)
  · exact ⟨128, rfl⟩
  · rw [tr5 hz hs]; have := ht i
    match a with
    | ⟨0, _⟩ => show (0 + 1) * 2 ≤ 2; omega
    | ⟨1, _⟩ => show (tile s (num i).val + 1) * 256 ≤ 7680; omega
    | ⟨2, _⟩ => show (0 + 1) * 1536 ≤ 1536; omega
  · exact Dvd.dvd.mul_left (b := 256) ⟨64, rfl⟩ (cc0_transform_5 k0_off1_inb numel1_S1 (tbl (F := F) z) i 1)
  · exact ⟨64, rfl⟩
  · rw [tr6 hz hs]; have := ht i
    match a with
    | ⟨0, _⟩ => show (tile s (num i).val + 1) * 256 ≤ 7680; omega
    | ⟨1, _⟩ => show (0 + 1) * 1 ≤ 1; omega

/-! The bits of the flag word. -/

open Classical in
theorem bits (i : Fin 55) : (bit (wFlag z (ix1 i)) 1#32 = 1#1 ↔ firstOf s i.val) ∧ (bit (wFlag z (ix1 i)) 2#32 = 1#1 ↔ lastOf s i.val) ∧
    (bit (wFlag z (ix1 i)) 4#32 = 1#1 ↔ live s i.val) := by
  rw [flag_at hz hs]
  by_cases h1 : firstOf s i.val <;> by_cases h2 : lastOf s i.val <;> by_cases h3 : live s i.val <;>
    simp only [h1, h2, h3, if_true, if_false, iff_true, iff_false] <;> decide

end Cert.Proof.Points

end
-- ==== Proof.Steps.lean ====
module

public import proofs.«01_k».proof.Proof.Points
@[expose] public section
set_option maxRecDepth 16384
noncomputable section

/-! # The grid points one after another

What the scratch buffers hold when a grid point starts, from the arrays alone: the codes and scales of the tile, and of
its rows those that the points of the tile before this one accumulated. One call of the body keeps it so, and at a
tile's last point every row of the tile is there. -/
namespace Cert.Proof.Steps

open Idealize.ShloMosaic Idealize.ShloMosaic.ValueIdx Idealize.ShloMosaic.WordCmp
open Cert.KernelIdeal Cert.KernelIdeal.Gen Cert.Proof.Host Cert.Proof.Tables Cert.Proof.Facts Cert.Proof.Body Cert.Proof.Points

variable {F : FTy → Type} [FloatOps F]

/-! ## The accumulated rows -/

/-- An expert's contribution to the rows of a tile. -/
def contrib (codes : Vec F S256x5120 .fp8e5m2) (w : Vec F S1x1536x5120 .fp8e4m3) (d : Vec F S256x1 .f32) (ws : Vec F S1x1x1536 .f32) :
    FVec F S256x1536 .f32 :=
  mulf (mulf (matmul dot_S256x5120_S1536x5120_S256x1536_1_1_0_0_n_n none codes
      (shapeCast S1536x5120 w shapeCasts_S1x1536x5120_S1536x5120 : FVec F S1536x5120 .fp8e4m3) (constant S256x1536 .f32 0x00000000#32))
    (broadcastTo S256x1536 d broadcasts_S256x1_S256x1536))
    (broadcastTo S256x1536 (shapeCast S1x1536 ws shapeCasts_S1x1x1536_S1x1536) broadcasts_S1x1536_S256x1536)

theorem pay4_ap (codes : Vec F S256x5120 .fp8e5m2) (w : Vec F S1x1536x5120 .fp8e4m3) (d : Vec F S256x1 .f32) (ws : Vec F S1x1x1536 .f32)
    (lo hi : BitVec 32) (p : Vec F S256x1536 .f32) (j : S256x1536.Idx) :
    k0_pay4 codes w d ws lo hi p j = if lo.toInt ≤ (j 0).val ∧ ((j 0).val : ℤ) < hi.toInt then contrib codes w d ws j else p j := by
  unfold k0_pay4
  dsimp only
  rw [shapeCast_self, select_at, andi_at, cmpi_at, cmpi_at, broadcast_at, broadcast_at, iota_at]
  have hj : (j 0).val < 2 ^ (32 - 1) := lt_trans (j 0).isLt (by decide)
  rw [show List.foldl (fun n a => n * S256x1536.size a + (j a).val) 0 [0] = (j 0).val by
    rw [List.foldl_cons, List.foldl_nil, Nat.zero_mul, Nat.zero_add]]
  rw [cmpi_sge_eq, cmpi_slt_eq, toInt_ofNat_of_lt hj, andi_ofBool]
  by_cases hc : lo.toInt ≤ (j 0).val ∧ ((j 0).val : ℤ) < hi.toInt
  · rw [if_pos hc, decide_eq_true hc.1, decide_eq_true hc.2]; rfl
  · rw [if_neg hc, show (decide (lo.toInt ≤ (j 0).val) && decide (((j 0).val : ℤ) < hi.toInt)) = false by
      rw [← Bool.decide_and]; exact decide_eq_false hc]
    rfl

/-! ## The blocks of the arrays -/

/-- Row `r` of tile `τ`. -/
def row (τ : ℕ) (r : Fin 256) : Fin 7680 := ⟨(256 * τ + r.val) % 7680, Nat.mod_lt _ (by norm_num)⟩

def dyT (dy : Vec F S7680x5120 .bf16) (τ : ℕ) : Vec F S256x5120 .bf16 := fun j => dy (ix2 (row τ (j 0)) (j 1))
def guT (g : Vec F S7680x1536 .bf16) (τ : ℕ) : Vec F S256x1536 .bf16 := fun j => g (ix2 (row τ (j 0)) (j 1))
def wE (w : Vec F S25x1536x5120 .fp8e4m3) (e : ℕ) : Vec F S1x1536x5120 .fp8e4m3 := fun j =>
  w (ix3 ⟨e % 25, Nat.mod_lt _ (by norm_num)⟩ (j 1) (j 2))
def wsE (ws : Vec F S25x1x1536 .f32) (e : ℕ) : Vec F S1x1x1536 .f32 := fun j =>
  ws (ix3 ⟨e % 25, Nat.mod_lt _ (by norm_num)⟩ (j 1) (j 2))

section Rows
variable (dy : Vec F S7680x5120 .bf16) (w : Vec F S25x1536x5120 .fp8e4m3) (ws : Vec F S25x1x1536 .f32) (s : ℕ → ℕ)

/-- What expert `e` contributes to tile `τ`. -/
def part (τ e : ℕ) : Vec F S256x1536 .f32 := contrib (codesOf (dyT dy τ)) (wE w e) (col (dysOf (dyT dy τ))) (wsE ws e)

/-- The accumulated rows of tile `τ`: each the contribution of its expert. -/
def pT (τ : ℕ) : Vec F S256x1536 .f32 := fun j => part dy w ws τ (expert s (256 * τ + (j 0).val)) j

/-- What the scratch buffers hold after `n` points. -/
def Inv (n : ℕ) (x13 : Vec F S256x5120 .fp8e5m2) (x14 : Vec F S256x128 .f32) (x15 : Vec F S256x1536 .f32) : Prop :=
  ∀ i, n = i + 1 → (i < V s 25 → x13 = codesOf (dyT dy (tile s i)) ∧ x14 = dysOf (dyT dy (tile s i))) ∧
    ∀ j ≤ i, j < V s 25 → tile s j = tile s i → ∀ jj : S256x1536.Idx, E s (own s j) ≤ 256 * tile s i + (jj 0).val →
      256 * tile s i + (jj 0).val < E s (own s j + 1) → x15 jj = pT dy w ws s (tile s i) jj

theorem inv_zero (x13 : Vec F S256x5120 .fp8e5m2) (x14 : Vec F S256x128 .f32) (x15 : Vec F S256x1536 .f32) :
    Inv dy w ws s 0 x13 x14 x15 := fun i h => by omega

variable {z : IVec S25 32} {s} (hz : ∀ e : Fin 25, z (ix1 e) = BitVec.ofNat 32 (s e.val)) (hs : E s 25 = 7680)
variable {x13 : Vec F S256x5120 .fp8e5m2} {x14 : Vec F S256x128 .f32} {x15 : Vec F S256x1536 .f32} (n : Fin 55)
variable (h : Inv dy w ws s n.val x13 x14 x15)

/-- The words of point `n`. -/
abbrev lo (z : IVec S25 32) (n : Fin 55) : BitVec 32 := wLo z (ix1 n)
abbrev hi (z : IVec S25 32) (n : Fin 55) : BitVec 32 := wHi z (ix1 n)
abbrev fl (z : IVec S25 32) (n : Fin 55) : BitVec 32 := wFlag z (ix1 n)

/-- The accumulated rows after point `n`. -/
abbrev pAt (z : IVec S25 32) (s : ℕ → ℕ) (n : Fin 55) (x13 : Vec F S256x5120 .fp8e5m2) (x14 : Vec F S256x128 .f32) (x15 : Vec F S256x1536 .f32) :
    Vec F S256x1536 .f32 :=
  pNext (lo z n) (hi z n) (fl z n) (dyT dy (tile s n.val)) (wE w (own s n.val)) (wsE ws (own s n.val)) x13 x14 x15

include hz hs h

/-- At a live point the codes and scales are the tile's. -/
theorem codes_at (hl : n.val < V s 25) :
    codesNext (fl z n) (dyT dy (tile s n.val)) x13 = codesOf (dyT dy (tile s n.val)) ∧
      dysNext (fl z n) (dyT dy (tile s n.val)) x14 = dysOf (dyT dy (tile s n.val)) := by
  unfold codesNext dysNext
  by_cases h1 : firstOf s n.val
  · have hb := (bits hz hs n).1.2 h1
    rw [if_pos hb, if_pos hb]; exact ⟨rfl, rfl⟩
  · have hb := fun hb => h1 ((bits hz hs n).1.1 hb)
    rw [if_neg hb, if_neg hb]
    have h2 : n.val ≠ 0 ∧ tile s n.val = tile s (n.val - 1) := by
      by_contra hc
      refine h1 ⟨hl, ?_⟩
      by_cases h0 : n.val = 0
      · exact .inl h0
      · exact .inr fun he => hc ⟨h0, he⟩
    have := (h (n.val - 1) (by omega)).1 (by omega)
    rw [h2.2]; exact this

/-- The rows of point `j`, at or before point `n`, are accumulated after point `n`. -/
theorem rows_at (j : ℕ) (hj : j ≤ n.val) (hjl : j < V s 25) (ht : tile s j = tile s n.val) (jj : S256x1536.Idx)
    (h1 : E s (own s j) ≤ 256 * tile s n.val + (jj 0).val) (h2 : 256 * tile s n.val + (jj 0).val < E s (own s j + 1)) :
    pAt dy w ws z s n x13 x14 x15 jj = pT dy w ws s (tile s n.val) jj := by
  unfold pAt pNext
  by_cases hl : n.val < V s 25
  · have hb := (bits hz hs n).2.2.2 hl
    obtain ⟨hc, hd⟩ := codes_at dy w ws hz hs n h hl
    rw [if_pos hb, hc, hd, pay4_ap, lo_at hz hs, hi_at hz hs]
    split
    · rename_i hr
      have he : expert s (256 * tile s n.val + (jj 0).val) = own s n.val :=
        expert_eq s (own_spec s hs n.val).1 (by omega) (by omega)
      show _ = part dy w ws _ _ jj
      rw [he]; rfl
    · rename_i hr
      have hne : j ≠ n.val := by rintro rfl; exact hr ⟨by omega, by omega⟩
      have hm : tile s j ≤ tile s (n.val - 1) := tile_mono s hs (by omega)
      have hm2 : tile s (n.val - 1) ≤ tile s n.val := tile_mono s hs (by omega)
      have he : tile s (n.val - 1) = tile s n.val := by omega
      have := (h (n.val - 1) (by omega)).2 j (by omega) hjl (by omega) jj
      rw [he] at this
      exact this h1 h2
  · have hb := fun hb => hl ((bits hz hs n).2.2.1 hb)
    rw [if_neg hb]
    have h0 := total_pos s hs
    have he : tile s (n.val - 1 + 1) = tile s (n.val - 1) := tile_past s hs (by omega)
    rw [show n.val - 1 + 1 = n.val by omega] at he
    have := (h (n.val - 1) (by omega)).2 j (by omega) hjl (by omega) jj
    rw [← he] at this
    exact this h1 h2

/-- One call of the body keeps the scratch buffers so. -/
theorem inv_succ : Inv dy w ws s (n.val + 1) (codesNext (fl z n) (dyT dy (tile s n.val)) x13) (dysNext (fl z n) (dyT dy (tile s n.val)) x14)
    (pAt dy w ws z s n x13 x14 x15) := fun i hi => by
  obtain rfl : i = n.val := by omega
  exact ⟨fun hl => codes_at dy w ws hz hs n h hl, fun j hj hjl ht jj h1 h2 => rows_at dy w ws hz hs n h j hj hjl ht jj h1 h2⟩

/-- At a tile's last point every row is accumulated. -/
theorem last_rows (hl : lastOf s n.val) : pAt dy w ws z s n x13 x14 x15 = pT dy w ws s (tile s n.val) := by
  funext jj
  have ht := tile_lt s hs n.val
  have hj : (jj 0).val < 256 := (jj 0).isLt
  obtain ⟨j, hjl, hjt, h1, h2⟩ := visit_of_row s hs (R := 256 * tile s n.val + (jj 0).val) (by omega)
  have hjt' : tile s j = tile s n.val := by rw [hjt]; omega
  refine rows_at dy w ws hz hs n h j ?_ hjl hjt' jj h1 h2
  by_contra hc
  rcases hl.2 with h3 | h3
  · omega
  · have hm : tile s n.val ≤ tile s (n.val + 1) := tile_mono s hs (by omega)
    have hm2 : tile s (n.val + 1) ≤ tile s j := tile_mono s hs (by omega)
    omega

end Rows

end Cert.Proof.Steps

end
-- ==== Proof.Run.lean ====
module

public import proofs.«01_k».proof.Proof.Steps
public import Idealize.ShloMosaic.Lib.Pipeline.TableIdle
public import Idealize.ShloMosaic.Lib.Pipeline.Frame
@[expose] public section
set_option maxRecDepth 16384
noncomputable section
/-! # The run of the pipeline

What every staging buffer holds before and after the body at each grid point, and that the body keeps it so: the inputs
hold the blocks the tables name, an output holds its tile's result once the tile's last point has written it. -/
namespace Cert.Proof.Run
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof.Host Cert.Proof.Tables Cert.Proof.Facts Cert.Proof.Body Cert.Proof.Points Cert.Proof.Steps
variable {F : FTy → Type} [FloatOps F]
local notation "𝕄" => MT nD τ sig Unit (Elt F) ℕ (UR sig nD τ) ℕ

variable (V₀ : (c : Dev nD) → (b : Ref sig .tc) → Buf (Elt F) ((c : Thread nD τ).loc b))
variable (a : (pcfg0 (F := F)).Adm) (s : ℕ → ℕ)

/-! ## Reading a block -/

theorem emb_unit {σ : Shape} (off size : Fin σ.rank → ℕ) (inb) (j : (Rect.unit off size inb).shape.Idx) (x : Fin σ.rank) :
    ((Rect.unit (s := σ) off size inb).emb j x).val = off x + (j x).val := by
  rw [Rect.emb_apply]
  show off x + 1 * (j x).val = _
  omega

theorem rd2 {α : Type} {m0 m1 n0 n1 : ℕ} (A : (⟨2, ![m0, m1]⟩ : Shape).Idx → α) (ix : Fin 2 → ℕ) (τ : ℕ) (hix : ix = ![τ, 0])
    (inb : ∀ x, ix x * (![n0, n1] : Fin 2 → ℕ) x + (![n0, n1] : Fin 2 → ℕ) x ≤ (![m0, m1] : Fin 2 → ℕ) x) (j : (⟨2, ![n0, n1]⟩ : Shape).Idx)
    (i0 : Fin m0) (i1 : Fin m1) (h0 : τ * n0 + (j 0).val = i0.val) (h1 : (j 1).val = i1.val) :
    A ((Rect.unit (s := ⟨2, ![m0, m1]⟩) (fun x => ix x * (![n0, n1] : Fin 2 → ℕ) x) ![n0, n1] inb).emb j) = A (ix2 i0 i1) := by
  subst hix
  refine congrArg A (funext fun x => Fin.ext ((emb_unit _ _ _ j x).trans ?_))
  match x with
  | ⟨0, _⟩ => exact h0
  | ⟨1, _⟩ => show 0 * n1 + (j 1).val = i1.val; omega

theorem rd3 {α : Type} {m0 m1 m2 n0 n1 n2 : ℕ} (A : (⟨3, ![m0, m1, m2]⟩ : Shape).Idx → α) (ix : Fin 3 → ℕ) (e : ℕ) (hix : ix = ![e, 0, 0])
    (inb : ∀ x, ix x * (![n0, n1, n2] : Fin 3 → ℕ) x + (![n0, n1, n2] : Fin 3 → ℕ) x ≤ (![m0, m1, m2] : Fin 3 → ℕ) x)
    (j : (⟨3, ![n0, n1, n2]⟩ : Shape).Idx) (i0 : Fin m0) (i1 : Fin m1) (i2 : Fin m2) (h0 : e * n0 + (j 0).val = i0.val) (h1 : (j 1).val = i1.val)
    (h2 : (j 2).val = i2.val) :
    A ((Rect.unit (s := ⟨3, ![m0, m1, m2]⟩) (fun x => ix x * (![n0, n1, n2] : Fin 3 → ℕ) x) ![n0, n1, n2] inb).emb j) = A (ix3 i0 i1 i2) := by
  subst hix
  refine congrArg A (funext fun x => Fin.ext ((emb_unit _ _ _ j x).trans ?_))
  match x with
  | ⟨0, _⟩ => exact h0
  | ⟨1, _⟩ => show 0 * n1 + (j 1).val = i1.val; omega
  | ⟨2, _⟩ => show 0 * n2 + (j 2).val = i2.val; omega

theorem inb_of {r : ℕ} {ix n m : Fin r → ℕ} (h : ∀ x, (ix x + 1) * n x ≤ m x) (x : Fin r) : ix x * n x + n x ≤ m x := by
  rw [← Nat.succ_mul]; exact h x

/-! ## The arrays -/

abbrev Ady (c : Dev nD) : Vec F S7680x5120 .bf16 := V₀ c main_arg0
abbrev Aw (c : Dev nD) : Vec F S25x1536x5120 .fp8e4m3 := V₀ c main_arg2
abbrev Aws (c : Dev nD) : Vec F S25x1x1536 .f32 := V₀ c main_v84
abbrev Ag (c : Dev nD) : Vec F S7680x1536 .bf16 := V₀ c main_arg4
abbrev Au (c : Dev nD) : Vec F S7680x1536 .bf16 := V₀ c main_arg5

/-- The results of a tile. -/
def outT (c : Dev nD) (τ : ℕ) : Vec F S2x256x1536 .fp8e5m2 := outOf (pT (Ady V₀ c) (Aw V₀ c) (Aws V₀ c) s τ) (guT (Ag V₀ c) τ) (guT (Au V₀ c) τ)
def sclT (c : Dev nD) (τ : ℕ) : Vec F S256x1 .f32 := scaleOf (pT (Ady V₀ c) (Aw V₀ c) (Aws V₀ c) s τ) (guT (Ag V₀ c) τ) (guT (Au V₀ c) τ)

/-- What the launch keeps from point to point: the scratch buffers, the generator register and the tables. -/
def Φn (c : Dev nD) (n : ℕ) : sProp 𝕄 :=
  iprop((∃ x13 x14 x15, ⌜Inv (Ady V₀ c) (Aw V₀ c) (Aws V₀ c) s n x13 x14 x15⌝ ∗ owns (c : Thread nD τ) (Memref.whole cc0_scratch0) fullShare x13
    ∗ owns (c : Thread nD τ) (Memref.whole cc0_scratch1) fullShare x14 ∗ owns (c : Thread nD τ) (Memref.whole cc0_scratch2) fullShare x15)
    ∗ (∃ r, prngReg c r) ∗ ΦT pre0 a.1 c)

/-- The proof data of the launch. -/
def dats (_ : Fin 1) (c : Dev nD) : Dat τ (Elt F) Unit ℕ (UR sig nD τ) ℕ (cfg0 a) c where
  A w := V₀ c (Pipeline.arrRef spec0 w)
  after w t := match w with
    | ⟨0, _⟩ => dyT (Ady V₀ c) (tile s t.val)
    | ⟨1, _⟩ => wE (Aw V₀ c) (own s t.val)
    | ⟨2, _⟩ => wsE (Aws V₀ c) (own s t.val)
    | ⟨3, _⟩ => guT (Ag V₀ c) (tile s t.val)
    | ⟨4, _⟩ => guT (Au V₀ c) (tile s t.val)
    | ⟨5, _⟩ => outT V₀ s c (tile s t.val)
    | ⟨6, _⟩ => sclT V₀ s c (tile s t.val)
  Φ k := Φn V₀ a s c k.val
  q _ := fullShare
  owed _ := 0

theorem A_eq (c : Dev nD) (w : Fin (cfg0 a).W) : (dats V₀ a s 0 c).A w = V₀ c (Pipeline.arrRef spec0 w) := by dsimp only [dats]
theorem after_0 (c : Dev nD) (t : Fin (cfg0 a).N) : (dats V₀ a s 0 c).after 0 t = dyT (Ady V₀ c) (tile s t.val) := by dsimp only [dats]; rfl
theorem after_1 (c : Dev nD) (t : Fin (cfg0 a).N) : (dats V₀ a s 0 c).after 1 t = wE (Aw V₀ c) (own s t.val) := by dsimp only [dats]; rfl
theorem after_2 (c : Dev nD) (t : Fin (cfg0 a).N) : (dats V₀ a s 0 c).after 2 t = wsE (Aws V₀ c) (own s t.val) := by dsimp only [dats]; rfl
theorem after_3 (c : Dev nD) (t : Fin (cfg0 a).N) : (dats V₀ a s 0 c).after 3 t = guT (Ag V₀ c) (tile s t.val) := by dsimp only [dats]; rfl
theorem after_4 (c : Dev nD) (t : Fin (cfg0 a).N) : (dats V₀ a s 0 c).after 4 t = guT (Au V₀ c) (tile s t.val) := by dsimp only [dats]; rfl
theorem after_5 (c : Dev nD) (t : Fin (cfg0 a).N) : (dats V₀ a s 0 c).after 5 t = outT V₀ s c (tile s t.val) := by dsimp only [dats]; rfl
theorem after_6 (c : Dev nD) (t : Fin (cfg0 a).N) : (dats V₀ a s 0 c).after 6 t = sclT V₀ s c (tile s t.val) := by dsimp only [dats]; rfl

/-! ## The blocks the tables name -/

variable {z : IVec S25 32} {s} (hz : ∀ e : Fin 25, z (ix1 e) = BitVec.ofNat 32 (s e.val)) (hs : E s 25 = 7680) (ha : a.1 = tbl z)
include hz hs ha

theorem index_0 (t : Fin (cfg0 a).N) : ((cfg0 a).win 0).index t = ![tile s t.val, 0] := by
  refine Eq.trans (b := cc0_transform_0 k0_off1_inb numel1_S1 a.1 (grid0.coords t)) rfl ?_
  rw [ha, tr0 hz hs, num_coords]
theorem index_1 (t : Fin (cfg0 a).N) : ((cfg0 a).win 1).index t = ![own s t.val, 0, 0] := by
  refine Eq.trans (b := cc0_transform_1 k0_off1_inb numel1_S1 a.1 (grid0.coords t)) rfl ?_
  rw [ha, tr1 hz hs, num_coords]
theorem index_2 (t : Fin (cfg0 a).N) : ((cfg0 a).win 2).index t = ![own s t.val, 0, 0] := by
  refine Eq.trans (b := cc0_transform_2 k0_off1_inb numel1_S1 a.1 (grid0.coords t)) rfl ?_
  rw [ha, tr2 hz hs, num_coords]
theorem index_3 (t : Fin (cfg0 a).N) : ((cfg0 a).win 3).index t = ![tile s t.val, 0] := by
  refine Eq.trans (b := cc0_transform_3 k0_off1_inb numel1_S1 a.1 (grid0.coords t)) rfl ?_
  rw [ha, tr3 hz hs, num_coords]
theorem index_4 (t : Fin (cfg0 a).N) : ((cfg0 a).win 4).index t = ![tile s t.val, 0] := by
  refine Eq.trans (b := cc0_transform_4 k0_off1_inb numel1_S1 a.1 (grid0.coords t)) rfl ?_
  rw [ha, tr4 hz hs, num_coords]
theorem index_5 (t : Fin (cfg0 a).N) : ((cfg0 a).win 5).index t = ![0, tile s t.val, 0] := by
  refine Eq.trans (b := cc0_transform_5 k0_off1_inb numel1_S1 a.1 (grid0.coords t)) rfl ?_
  rw [ha, tr5 hz hs, num_coords]
theorem index_6 (t : Fin (cfg0 a).N) : ((cfg0 a).win 6).index t = ![tile s t.val, 0] := by
  refine Eq.trans (b := cc0_transform_6 k0_off1_inb numel1_S1 a.1 (grid0.coords t)) rfl ?_
  rw [ha, tr6 hz hs, num_coords]

/-! Each input window's block is the part of its array that `Steps` names, and the body finds it in the buffer. -/

theorem blk_0 (c : Dev nD) (t : Fin (cfg0 a).N) :
    (((cfg0 a).win 0).blk t).view.read (Elt F) (V₀ c (Pipeline.arrRef spec0 0)) = dyT (Ady V₀ c) (tile s t.val) := by
  have hi := tr0 (F := F) hz hs (grid0.coords t)
  rw [num_coords, ← ha] at hi
  have ht := tile_lt s hs t.val
  have inb := inb_of (hinb0 a.1 a.2 0 (grid0.coords t))
  refine Eq.trans (b := fun j : S256x5120.Idx => V₀ c main_arg0 ((Rect.unit (s := S7680x5120) (fun x => cc0_transform_0 k0_off1_inb numel1_S1 a.1 (grid0.coords t) x * S256x5120.size x) S256x5120.size inb).emb j)) rfl ?_
  refine funext fun j => rd2 (Ady V₀ c) _ _ hi inb j (row (tile s t.val) (j 0)) (j 1) ?_ rfl
  have hj : (j 0).val < 256 := (j 0).isLt
  show tile s t.val * 256 + (j 0).val = (256 * tile s t.val + (j 0).val) % 7680
  omega

theorem before_0 (c : Dev nD) (t : Fin (cfg0 a).N) (d) : (dats V₀ a s 0 c).before 0 t d = dyT (Ady V₀ c) (tile s t.val) :=
  ((dats V₀ a s 0 c).before_in_eq_fetched 0 rfl (fun _ => rfl) (fun _ _ _ => rfl)
    (fun t => by rw [after_0]; unfold Dat.blockOf; rw [A_eq]; exact (blk_0 V₀ a hz hs ha c t).symm) t d).trans
    (by unfold Dat.fetched Dat.blockOf; rw [A_eq]; exact blk_0 V₀ a hz hs ha c t)

theorem blk_1 (c : Dev nD) (t : Fin (cfg0 a).N) :
    (((cfg0 a).win 1).blk t).view.read (Elt F) (V₀ c (Pipeline.arrRef spec0 1)) = wE (Aw V₀ c) (own s t.val) := by
  have hi := tr1 (F := F) hz hs (grid0.coords t)
  rw [num_coords, ← ha] at hi
  have ht := (own_spec s hs t.val).1
  have inb := inb_of (hinb0 a.1 a.2 1 (grid0.coords t))
  refine Eq.trans (b := fun j : S1x1536x5120.Idx => V₀ c main_arg2 ((Rect.unit (s := S25x1536x5120) (fun x => cc0_transform_1 k0_off1_inb numel1_S1 a.1 (grid0.coords t) x * S1x1536x5120.size x) S1x1536x5120.size inb).emb j)) rfl ?_
  refine funext fun j => rd3 (Aw V₀ c) _ _ hi inb j _ (j 1) (j 2) ?_ ?_ rfl
  · have hj : (j 0).val < 1 := (j 0).isLt
    show own s t.val * 1 + (j 0).val = own s t.val % 25
    omega
  · rfl

theorem before_1 (c : Dev nD) (t : Fin (cfg0 a).N) (d) : (dats V₀ a s 0 c).before 1 t d = wE (Aw V₀ c) (own s t.val) :=
  ((dats V₀ a s 0 c).before_in_eq_fetched 1 rfl (fun _ => rfl) (fun _ _ _ => rfl)
    (fun t => by rw [after_1]; unfold Dat.blockOf; rw [A_eq]; exact (blk_1 V₀ a hz hs ha c t).symm) t d).trans
    (by unfold Dat.fetched Dat.blockOf; rw [A_eq]; exact blk_1 V₀ a hz hs ha c t)

theorem blk_2 (c : Dev nD) (t : Fin (cfg0 a).N) :
    (((cfg0 a).win 2).blk t).view.read (Elt F) (V₀ c (Pipeline.arrRef spec0 2)) = wsE (Aws V₀ c) (own s t.val) := by
  have hi := tr2 (F := F) hz hs (grid0.coords t)
  rw [num_coords, ← ha] at hi
  have ht := (own_spec s hs t.val).1
  have inb := inb_of (hinb0 a.1 a.2 2 (grid0.coords t))
  refine Eq.trans (b := fun j : S1x1x1536.Idx => V₀ c main_v84 ((Rect.unit (s := S25x1x1536) (fun x => cc0_transform_2 k0_off1_inb numel1_S1 a.1 (grid0.coords t) x * S1x1x1536.size x) S1x1x1536.size inb).emb j)) rfl ?_
  refine funext fun j => rd3 (Aws V₀ c) _ _ hi inb j _ (j 1) (j 2) ?_ ?_ rfl
  · have hj : (j 0).val < 1 := (j 0).isLt
    show own s t.val * 1 + (j 0).val = own s t.val % 25
    omega
  · rfl

theorem before_2 (c : Dev nD) (t : Fin (cfg0 a).N) (d) : (dats V₀ a s 0 c).before 2 t d = wsE (Aws V₀ c) (own s t.val) :=
  ((dats V₀ a s 0 c).before_in_eq_fetched 2 rfl (fun _ => rfl) (fun _ _ _ => rfl)
    (fun t => by rw [after_2]; unfold Dat.blockOf; rw [A_eq]; exact (blk_2 V₀ a hz hs ha c t).symm) t d).trans
    (by unfold Dat.fetched Dat.blockOf; rw [A_eq]; exact blk_2 V₀ a hz hs ha c t)

theorem blk_3 (c : Dev nD) (t : Fin (cfg0 a).N) :
    (((cfg0 a).win 3).blk t).view.read (Elt F) (V₀ c (Pipeline.arrRef spec0 3)) = guT (Ag V₀ c) (tile s t.val) := by
  have hi := tr3 (F := F) hz hs (grid0.coords t)
  rw [num_coords, ← ha] at hi
  have ht := tile_lt s hs t.val
  have inb := inb_of (hinb0 a.1 a.2 3 (grid0.coords t))
  refine Eq.trans (b := fun j : S256x1536.Idx => V₀ c main_arg4 ((Rect.unit (s := S7680x1536) (fun x => cc0_transform_3 k0_off1_inb numel1_S1 a.1 (grid0.coords t) x * S256x1536.size x) S256x1536.size inb).emb j)) rfl ?_
  refine funext fun j => rd2 (Ag V₀ c) _ _ hi inb j (row (tile s t.val) (j 0)) (j 1) ?_ rfl
  have hj : (j 0).val < 256 := (j 0).isLt
  show tile s t.val * 256 + (j 0).val = (256 * tile s t.val + (j 0).val) % 7680
  omega

theorem before_3 (c : Dev nD) (t : Fin (cfg0 a).N) (d) : (dats V₀ a s 0 c).before 3 t d = guT (Ag V₀ c) (tile s t.val) :=
  ((dats V₀ a s 0 c).before_in_eq_fetched 3 rfl (fun _ => rfl) (fun _ _ _ => rfl)
    (fun t => by rw [after_3]; unfold Dat.blockOf; rw [A_eq]; exact (blk_3 V₀ a hz hs ha c t).symm) t d).trans
    (by unfold Dat.fetched Dat.blockOf; rw [A_eq]; exact blk_3 V₀ a hz hs ha c t)

theorem blk_4 (c : Dev nD) (t : Fin (cfg0 a).N) :
    (((cfg0 a).win 4).blk t).view.read (Elt F) (V₀ c (Pipeline.arrRef spec0 4)) = guT (Au V₀ c) (tile s t.val) := by
  have hi := tr4 (F := F) hz hs (grid0.coords t)
  rw [num_coords, ← ha] at hi
  have ht := tile_lt s hs t.val
  have inb := inb_of (hinb0 a.1 a.2 4 (grid0.coords t))
  refine Eq.trans (b := fun j : S256x1536.Idx => V₀ c main_arg5 ((Rect.unit (s := S7680x1536) (fun x => cc0_transform_4 k0_off1_inb numel1_S1 a.1 (grid0.coords t) x * S256x1536.size x) S256x1536.size inb).emb j)) rfl ?_
  refine funext fun j => rd2 (Au V₀ c) _ _ hi inb j (row (tile s t.val) (j 0)) (j 1) ?_ rfl
  have hj : (j 0).val < 256 := (j 0).isLt
  show tile s t.val * 256 + (j 0).val = (256 * tile s t.val + (j 0).val) % 7680
  omega

theorem before_4 (c : Dev nD) (t : Fin (cfg0 a).N) (d) : (dats V₀ a s 0 c).before 4 t d = guT (Au V₀ c) (tile s t.val) :=
  ((dats V₀ a s 0 c).before_in_eq_fetched 4 rfl (fun _ => rfl) (fun _ _ _ => rfl)
    (fun t => by rw [after_4]; unfold Dat.blockOf; rw [A_eq]; exact (blk_4 V₀ a hz hs ha c t).symm) t d).trans
    (by unfold Dat.fetched Dat.blockOf; rw [A_eq]; exact blk_4 V₀ a hz hs ha c t)

/-! ## The outputs' buffers at the idle points -/

theorem idle_iff (t : Fin (cfg0 a).N) : (!(k0_cond3 (a.1.atD 4 (k0_off1 (grid0.coords t))) == 1#1)) = true ↔ ¬ lastOf s t.val := by
  rw [ha, atD_flag, Bool.not_eq_true', ← Bool.not_eq_true, not_iff_not]
  have hb := (bits hz hs (num (grid0.coords t))).2.1
  rw [num_coords] at hb
  exact beq_iff_eq.trans hb

theorem idle_5 (t : Fin (cfg0 a).N) : (cfg0 a).idle 5 ((cfg0 a).grid.coords t) = true ↔ ¬ lastOf s t.val := idle_iff a hz hs ha t
theorem idle_6 (t : Fin (cfg0 a).N) : (cfg0 a).idle 6 ((cfg0 a).grid.coords t) = true ↔ ¬ lastOf s t.val := idle_iff a hz hs ha t

theorem flush_5 (t : Fin (cfg0 a).N) : ((cfg0 a).win 5).flush t = true ↔ t.val + 1 = 55 ∨ tile s (t.val + 1) ≠ tile s t.val := by
  unfold Window.flush
  rw [show ((cfg0 a).win 5).isOut = true from rfl, Bool.true_and, Bool.or_eq_true, decide_eq_true_iff, decide_eq_true_iff]
  have hN : t.val < 55 := N_0 ▸ t.isLt
  by_cases h : t.val + 1 = 55
  · exact ⟨fun _ => .inl h, fun _ => .inl (h.trans N_0.symm)⟩
  refine or_congr (Eq.congr rfl N_0) ⟨?_, fun hne => ⟨lt_of_lt_of_eq (by omega : t.val + 1 < 55) N_0.symm, fun e => hne ?_⟩⟩
  · rintro ⟨h', e⟩ e'
    rw [index_5 a hz hs ha, index_5 a hz hs ha] at e
    exact e (by rw [e'])
  · rw [index_5 a hz hs ha, index_5 a hz hs ha] at e
    exact congrFun e 1
theorem flush_6 (t : Fin (cfg0 a).N) : ((cfg0 a).win 6).flush t = true ↔ t.val + 1 = 55 ∨ tile s (t.val + 1) ≠ tile s t.val := by
  unfold Window.flush
  rw [show ((cfg0 a).win 6).isOut = true from rfl, Bool.true_and, Bool.or_eq_true, decide_eq_true_iff, decide_eq_true_iff]
  have hN : t.val < 55 := N_0 ▸ t.isLt
  by_cases h : t.val + 1 = 55
  · exact ⟨fun _ => .inl h, fun _ => .inl (h.trans N_0.symm)⟩
  refine or_congr (Eq.congr rfl N_0) ⟨?_, fun hne => ⟨lt_of_lt_of_eq (by omega : t.val + 1 < 55) N_0.symm, fun e => hne ?_⟩⟩
  · rintro ⟨h', e⟩ e'
    rw [index_6 a hz hs ha, index_6 a hz hs ha] at e
    exact e (by rw [e'])
  · rw [index_6 a hz hs ha, index_6 a hz hs ha] at e
    exact congrFun e 0

omit hz ha in
/-- A point that writes a block back without storing it comes after every live point: the buffer holds the block already. -/
theorem out_idle {c : Dev nD} (dat : Dat τ (Elt F) Unit ℕ (UR sig nD τ) ℕ (cfg0 a) c) (w : Fin (cfg0 a).W) (hw : ((cfg0 a).win w).isOut = true)
    (hclip : ∀ (i : (cfg0 a).grid.Coords) x, ((cfg0 a).win w).clip i x = none)
    (hidle : ∀ t : Fin (cfg0 a).N, (cfg0 a).idle w ((cfg0 a).grid.coords t) = true ↔ ¬ lastOf s t.val)
    (hflush : ∀ t : Fin (cfg0 a).N, ((cfg0 a).win w).flush t = true ↔ t.val + 1 = 55 ∨ tile s (t.val + 1) ≠ tile s t.val)
    (hafter : ∀ t t' : Fin (cfg0 a).N, tile s t.val = tile s t'.val → dat.after w t = dat.after w t') (t : Fin (cfg0 a).N) (d)
    (hl : ¬ lastOf s t.val) (hf : ((cfg0 a).win w).flush t = true) : dat.before w t d = dat.after w t := by
  have hN : (cfg0 a).N = 55 := N_0
  have htot := total_le s hs
  have hpos := total_pos s hs
  have fresh : ∀ k, V s 25 + k < 55 → (cfg0 a).fresh w (V s 25 + k) = false := by
    intro k
    induction k with
    | zero =>
      intro h
      obtain ⟨n, hn⟩ : ∃ n, V s 25 = n + 1 := ⟨V s 25 - 1, by omega⟩
      have hlt : n < (cfg0 a).N := by omega
      rw [Nat.add_zero, hn, Cfg.fresh_succ _ _ _ hlt, Bool.or_eq_false_iff, Bool.and_eq_false_iff]
      refine ⟨Bool.eq_false_iff.2 fun e => ?_, .inl (Bool.eq_false_iff.2 fun e => ?_)⟩
      · rcases (hflush ⟨n, hlt⟩).1 e with e | e
        · have e : n + 1 = 55 := e
          omega
        · exact e (tile_past s hs (by show _ ≤ n + 1; omega))
      · exact (hidle ⟨n, hlt⟩).1 e ⟨by show n < V s 25; omega, .inl (by show n = V s 25 - 1; omega)⟩
    | succ k ih =>
      intro h
      have hlt : V s 25 + k < (cfg0 a).N := by omega
      rw [← Nat.add_assoc, Cfg.fresh_succ _ _ _ hlt, ih (by omega), Bool.and_false, Bool.or_false]
      refine Bool.eq_false_iff.2 fun e => ?_
      rcases (hflush ⟨_, hlt⟩).1 e with e | e
      · have e : V s 25 + k + 1 = 55 := e
        omega
      · exact e (tile_past s hs (by show _ ≤ V s 25 + k + 1; omega))
  have ht : t.val < 55 := hN ▸ t.isLt
  have hnl : V s 25 ≤ t.val := by
    by_contra hlt
    rcases (hflush t).1 hf with e | e
    · exact hl ⟨by show t.val < V s 25; omega, .inl (by omega)⟩
    · exact hl ⟨by show t.val < V s 25; omega, .inr (Ne.symm e)⟩
  have hfr : (cfg0 a).fresh w t.val = false := by
    have := fresh (t.val - V s 25) (by omega)
    rwa [show V s 25 + (t.val - V s 25) = t.val by omega] at this
  have hcarry : ∀ (t : Fin (cfg0 a).N) (_ : t.val ≠ 0), (cfg0 a).idle w ((cfg0 a).grid.coords t) = true → (cfg0 a).fresh w t.val = false →
      dat.after w t = dat.after w ⟨t.val - 1, by omega⟩ := by
    intro t h0 _ hfr
    refine hafter _ _ ?_
    obtain ⟨n, hn⟩ : ∃ n, t.val = n + 1 := ⟨t.val - 1, by omega⟩
    have hlt : n < (cfg0 a).N := by have := t.isLt; omega
    rw [hn, Cfg.fresh_succ _ _ _ hlt, Bool.or_eq_false_iff] at hfr
    by_contra hne
    have hne : ¬ tile s t.val = tile s (t.val - 1) := hne
    rw [hn, Nat.add_sub_cancel] at hne
    exact Bool.false_ne_true (hfr.1.symm.trans ((hflush ⟨n, hlt⟩).2 (.inr hne)))
  rw [dat.before_out_traj w hw hclip hcarry t.val t rfl d, if_neg (by rw [hfr]; exact Bool.false_ne_true)]
  refine hafter _ _ ?_
  show tile s (t.val - 1) = tile s t.val
  have := tile_past s hs (i := t.val - 1) (by omega)
  rw [Nat.sub_add_cancel (by omega)] at this
  exact this.symm

theorem out_5 (c : Dev nD) (t : Fin (cfg0 a).N) (d) (hl : ¬ lastOf s t.val) (hf : ((cfg0 a).win 5).flush t = true) :
    (dats V₀ a s 0 c).before 5 t d = (dats V₀ a s 0 c).after 5 t :=
  out_idle a hs (dats V₀ a s 0 c) 5 rfl (fun _ _ => rfl) (idle_5 a hz hs ha) (flush_5 a hz hs ha) (fun t t' e => by rw [after_5, after_5, e]) t d hl hf
theorem out_6 (c : Dev nD) (t : Fin (cfg0 a).N) (d) (hl : ¬ lastOf s t.val) (hf : ((cfg0 a).win 6).flush t = true) :
    (dats V₀ a s 0 c).before 6 t d = (dats V₀ a s 0 c).after 6 t :=
  out_idle a hs (dats V₀ a s 0 c) 6 rfl (fun _ _ => rfl) (idle_6 a hz hs ha) (flush_6 a hz hs ha) (fun t t' e => by rw [after_6, after_6, e]) t d hl hf

end Cert.Proof.Run
-- ==== Proof.Point.lean ====
module

public import proofs.«01_k».proof.Proof.Run
@[expose] public section
set_option maxRecDepth 16384
noncomputable section
/-! # The body at a grid point

One call of the body, on the buffers as the launch hands them to it and as it takes them back. -/
namespace Cert.Proof.Point
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof.Host Cert.Proof.Tables Cert.Proof.Facts Cert.Proof.Body Cert.Proof.Points Cert.Proof.Steps Cert.Proof.Run
variable {F : FTy → Type} [FloatOps F]
local notation "𝕄" => MT nD τ sig Unit (Elt F) ℕ (UR sig nD τ) ℕ

variable (V₀ : (c : Dev nD) → (b : Ref sig .tc) → Buf (Elt F) ((c : Thread nD τ).loc b))
variable (a : (pcfg0 (F := F)).Adm) (s : ℕ → ℕ)

variable (V₀ : (c : Dev nD) → (b : Ref sig .tc) → Buf (Elt F) ((c : Thread nD τ).loc b))
variable (a : (pcfg0 (F := F)).Adm)

/-- The body at point `t`. -/
def bodyAt (t : Fin (cfg0 a).N) := cc0__body (F := F) (grid0.coords t) (Memref.whole main_v36) (Memref.isWhole_whole _) (Memref.whole main_v19) (Memref.isWhole_whole _) (Memref.whole main_v46) (Memref.isWhole_whole _) (Memref.whole main_v56) (Memref.isWhole_whole _) (Memref.whole main_v83) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

theorem defs₀_row (t : Fin (cfg0 a).N) : defs₀ (F := F) .tc (cfg0 a).body ((cfg0 a).bodyArgs t ((cfg0 a).slots t)) = bodyAt a t := by
  unfold defs₀; rw [Defs.onTc_tc]; rfl

/-- The tables, one by one. -/
theorem tables_eq (z : IVec S25 32) (c : Dev nD) : (ΦT pre0 (tbl (F := F) z) c : sProp 𝕄) = iprop(owns (c : Thread nD τ) (Memref.whole main_v36) fullShare.right (wTile z)
    ∗ owns (c : Thread nD τ) (Memref.whole main_v19) fullShare.right (wOwn z) ∗ owns (c : Thread nD τ) (Memref.whole main_v46) fullShare.right (wLo z)
    ∗ owns (c : Thread nD τ) (Memref.whole main_v56) fullShare.right (wHi z) ∗ owns (c : Thread nD τ) (Memref.whole main_v83) fullShare.right (wFlag z)) := by
  rw [owns_whole, owns_whole, owns_whole, owns_whole, owns_whole]
  exact bigSep_univ_eq_bigSepL [(0 : Fin 5), (1 : Fin 5), (2 : Fin 5), (3 : Fin 5), (4 : Fin 5)] (by decide) (by decide) _

variable {s : ℕ → ℕ} {z : IVec S25 32} (hz : ∀ e : Fin 25, z (ix1 e) = BitVec.ofNat 32 (s e.val)) (hs : E s 25 = 7680) (ha : a.1 = tbl z)

/-- How the launch takes an output's buffer back. -/
def leaves (c : Dev nD) (t : Fin (cfg0 a).N) (w : Fin (cfg0 a).W) (s : ℕ → ℕ) : sProp 𝕄 :=
  match (cfg0 a).idle w ((cfg0 a).grid.coords t) with
  | true =>
    match ((cfg0 a).win w).flush t with
    | false => iprop(∃ d, owns (c : Thread nD τ) (((cfg0 a).win w).stage ((cfg0 a).slots t w)) fullShare ((dats V₀ a s 0 c).before w t d))
    | true => owns (c : Thread nD τ) (((cfg0 a).win w).stage ((cfg0 a).slots t w)) fullShare ((dats V₀ a s 0 c).after w t)
  | false => owns (c : Thread nD τ) (((cfg0 a).win w).stage ((cfg0 a).slots t w)) fullShare ((dats V₀ a s 0 c).after w t)

theorem leaves_of (c : Dev nD) (t : Fin (cfg0 a).N) (w : Fin (cfg0 a).W) (hidle : (cfg0 a).idle w ((cfg0 a).grid.coords t) = true ↔ ¬ lastOf s t.val)
    (d) (hout : ¬ lastOf s t.val → ((cfg0 a).win w).flush t = true → (dats V₀ a s 0 c).before w t d = (dats V₀ a s 0 c).after w t)
    (x) (hx : lastOf s t.val → x = (dats V₀ a s 0 c).after w t) (hx' : ¬ lastOf s t.val → x = (dats V₀ a s 0 c).before w t d) :
    (owns (c : Thread nD τ) (((cfg0 a).win w).stage ((cfg0 a).slots t w)) fullShare x : sProp 𝕄) ⊢ leaves V₀ a c t w s := by
  unfold leaves
  by_cases hl : lastOf s t.val
  · rw [Bool.eq_false_iff.2 fun e => hidle.1 e hl, hx hl]
  · rw [hidle.2 hl, hx' hl]
    cases hf : ((cfg0 a).win w).flush t
    · dsimp only
      iintro H
      iexists d
      iexact H
    · dsimp only
      rw [hout hl hf]

def bodyPre (c : Dev nD) (t : Fin (cfg0 a).N) (s : ℕ → ℕ) : sProp 𝕄 :=
  iprop((dats V₀ a s 0 c).Φ t.castSucc ∗ (dats V₀ a s 0 c).owesAt () t.castSucc
    ∗ (∃ d, owns (c : Thread nD τ) (((cfg0 a).win 0).stage ((cfg0 a).slots t 0)) fullShare ((dats V₀ a s 0 c).before 0 t d))
    ∗ (∃ d, owns (c : Thread nD τ) (((cfg0 a).win 1).stage ((cfg0 a).slots t 1)) fullShare ((dats V₀ a s 0 c).before 1 t d))
    ∗ (∃ d, owns (c : Thread nD τ) (((cfg0 a).win 2).stage ((cfg0 a).slots t 2)) fullShare ((dats V₀ a s 0 c).before 2 t d))
    ∗ (∃ d, owns (c : Thread nD τ) (((cfg0 a).win 3).stage ((cfg0 a).slots t 3)) fullShare ((dats V₀ a s 0 c).before 3 t d))
    ∗ (∃ d, owns (c : Thread nD τ) (((cfg0 a).win 4).stage ((cfg0 a).slots t 4)) fullShare ((dats V₀ a s 0 c).before 4 t d))
    ∗ (∃ d, owns (c : Thread nD τ) (((cfg0 a).win 5).stage ((cfg0 a).slots t 5)) fullShare ((dats V₀ a s 0 c).before 5 t d))
    ∗ (∃ d, owns (c : Thread nD τ) (((cfg0 a).win 6).stage ((cfg0 a).slots t 6)) fullShare ((dats V₀ a s 0 c).before 6 t d)))

def bodyPost (c : Dev nD) (t : Fin (cfg0 a).N) (s : ℕ → ℕ) : sProp 𝕄 :=
  iprop((dats V₀ a s 0 c).Φ t.succ ∗ (dats V₀ a s 0 c).owesAt () t.succ
    ∗ owns (c : Thread nD τ) (((cfg0 a).win 0).stage ((cfg0 a).slots t 0)) fullShare ((dats V₀ a s 0 c).after 0 t)
    ∗ owns (c : Thread nD τ) (((cfg0 a).win 1).stage ((cfg0 a).slots t 1)) fullShare ((dats V₀ a s 0 c).after 1 t)
    ∗ owns (c : Thread nD τ) (((cfg0 a).win 2).stage ((cfg0 a).slots t 2)) fullShare ((dats V₀ a s 0 c).after 2 t)
    ∗ owns (c : Thread nD τ) (((cfg0 a).win 3).stage ((cfg0 a).slots t 3)) fullShare ((dats V₀ a s 0 c).after 3 t)
    ∗ owns (c : Thread nD τ) (((cfg0 a).win 4).stage ((cfg0 a).slots t 4)) fullShare ((dats V₀ a s 0 c).after 4 t)
    ∗ leaves V₀ a c t 5 s ∗ leaves V₀ a c t 6 s)

include hz hs ha

theorem sound_body (c : Dev nD) (t : Fin (cfg0 a).N) :
    bodyPre V₀ a c t s ⊢ wp frame (wpE (defs₀ (F := F)) Variants.none c none) Set.univ (bodyAt a t) (fun _ => bodyPost V₀ a c t s) := by
  unfold bodyPre bodyPost bodyAt
  simp only [before_0 V₀ a hz hs ha]
  simp only [before_1 V₀ a hz hs ha]
  simp only [before_2 V₀ a hz hs ha]
  simp only [before_3 V₀ a hz hs ha]
  simp only [before_4 V₀ a hz hs ha]
  rw [show (dats V₀ a s 0 c).owesAt () t.succ = (dats V₀ a s 0 c).owesAt () t.castSucc from rfl,
    show (dats V₀ a s 0 c).Φ t.succ = Φn V₀ a s c (t.val + 1) from rfl, show (dats V₀ a s 0 c).Φ t.castSucc = Φn V₀ a s c t.val from rfl,
    after_0, after_1, after_2, after_3, after_4]
  unfold Φn
  rw [ha, tables_eq]
  obtain ⟨n, hn⟩ : ∃ n : Fin 55, n = num (grid0.coords t) := ⟨_, rfl⟩
  have hnv : n.val = t.val := by rw [hn, num_coords]
  rw [← hnv]
  iintro ⟨⟨⟨%x13, %x14, %x15, %hI, S0, S1, S2⟩, Hp, T1, T2, T3, T4, T5⟩, Ho, ⟨%d0, H0⟩, ⟨%d1, H1⟩, ⟨%d2, H2⟩, ⟨%d3, H3⟩, ⟨%d4, H4⟩, ⟨%d5, H5⟩, ⟨%d6, H6⟩⟩
  have hS := inv_succ (Ady V₀ c) (Aw V₀ c) (Aws V₀ c) hz hs n hI
  have hL := last_rows (Ady V₀ c) (Aw V₀ c) (Aws V₀ c) hz hs n hI
  have hbit := (bits hz hs n).2.1
  have L5 := leaves_of V₀ a (s := s) c t 5 (idle_5 a hz hs ha t) d5 (out_5 V₀ a hz hs ha c t d5)
    (outNext (fl z n) (pAt (Ady V₀ c) (Aw V₀ c) (Aws V₀ c) z s n x13 x14 x15) (guT (Ag V₀ c) (tile s n.val)) (guT (Au V₀ c) (tile s n.val))
      ((dats V₀ a s 0 c).before 5 t d5)) (fun hl => by
      rw [after_5]
      rw [← hnv] at hl ⊢
      refine (congrArg (fun p => outNext (fl z n) p _ _ _) (hL hl)).trans ?_
      exact if_pos (c := bit (fl z n) 2#32 = 1#1) (hbit.2 hl)) (fun hl => by
      rw [← hnv] at hl
      exact if_neg (c := bit (fl z n) 2#32 = 1#1) fun e => hl (hbit.1 e))
  have L6 := leaves_of V₀ a (s := s) c t 6 (idle_6 a hz hs ha t) d6 (out_6 V₀ a hz hs ha c t d6)
    (scaleNext (fl z n) (pAt (Ady V₀ c) (Aw V₀ c) (Aws V₀ c) z s n x13 x14 x15) (guT (Ag V₀ c) (tile s n.val)) (guT (Au V₀ c) (tile s n.val))
      ((dats V₀ a s 0 c).before 6 t d6)) (fun hl => by
      rw [after_6]
      rw [← hnv] at hl ⊢
      refine (congrArg (fun p => scaleNext (fl z n) p _ _ _) (hL hl)).trans ?_
      exact if_pos (c := bit (fl z n) 2#32 = 1#1) (hbit.2 hl)) (fun hl => by
      rw [← hnv] at hl
      exact if_neg (c := bit (fl z n) 2#32 = 1#1) fun e => hl (hbit.1 e))
  iapply (Body.sound (F := F) c Set.univ (grid0.coords t) _ _ _ _ _ _ _ _ _ _ _ _ _ _ _ _ _ _ _ _ _ _ _ _ _ _ _ _ _ _ fullShare.right (wLo z) (wHi z) (wFlag z)
    (dyT (Ady V₀ c) (tile s n.val)) (wE (Aw V₀ c) (own s n.val)) (wsE (Aws V₀ c) (own s n.val)) (guT (Ag V₀ c) (tile s n.val)) (guT (Au V₀ c) (tile s n.val))
    ((dats V₀ a s 0 c).before 5 t d5) ((dats V₀ a s 0 c).before 6 t d6) x13 x14 x15 _)
  simp only [word_eq, ← hn]
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨T3, T4, T5, H0, H1, H2, H3, H4, H5, H6, S0, S1, S2⟩
  isplitl [S0 S1 S2 Hp T1 T2 T3 T4 T5]
  · isplitl [S0 S1 S2]
    · iexists _, _, _
      isplitr
      · ipureintro; exact hS
      isplitl [S0]; · iexact S0
      isplitl [S1]; · iexact S1
      iexact S2
    isplitl [Hp]; · iexact Hp
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  isplitl [H3]; · iexact H3
  isplitl [H4]; · iexact H4
  isplitl [H5]
  · iapply L5; iexact H5
  · iapply L6; iexact H6

theorem body_obligation (c : Dev nD) : BodyObligation (dats V₀ a s 0 c) (defs₀ (F := F)) Variants.none () Set.univ := fun t => by
  rw [bigSep_W0, bigSep_W0, defs₀_row]
  exact triple_restated (sound_body V₀ a hz hs ha c t) rfl .rfl fun _ => .rfl

end Cert.Proof.Point
-- ==== Proof.Launch.lean ====
module

public import proofs.«01_k».proof.Proof.Point
@[expose] public section
set_option maxRecDepth 16384
noncomputable section
/-! # The run of the program

The host operations make the tables, the launch runs the pipeline at them, and at the end every argument array is as it
was and every result array holds what the tiles' last points wrote. -/
namespace Cert.Proof.Launch
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Proof.Host Cert.Proof.Tables Cert.Proof.Facts Cert.Proof.Body Cert.Proof.Points Cert.Proof.Steps Cert.Proof.Run Cert.Proof.Point
variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The arrays when the launch starts. -/
def V (c : Dev nD) (b : Ref sig .tc) : Buf (Elt F) ((c : Thread nD τ).loc b) := StableHlo.after (opss (F := F)).flatten (fun b => m (c, b)) b

theorem V_arg0 (c : Dev nD) : V m c main_arg0 = m ((c : Thread nD τ).loc main_arg0) := by
  unfold V; rw [upto_all]; simp only [upto, opss, List.getD_cons_succ, List.getD_cons_zero]; after_results_simp
theorem V_arg1 (c : Dev nD) : V m c main_arg1 = m ((c : Thread nD τ).loc main_arg1) := by
  unfold V; rw [upto_all]; simp only [upto, opss, List.getD_cons_succ, List.getD_cons_zero]; after_results_simp
theorem V_arg2 (c : Dev nD) : V m c main_arg2 = m ((c : Thread nD τ).loc main_arg2) := by
  unfold V; rw [upto_all]; simp only [upto, opss, List.getD_cons_succ, List.getD_cons_zero]; after_results_simp
theorem V_arg3 (c : Dev nD) : V m c main_arg3 = m ((c : Thread nD τ).loc main_arg3) := by
  unfold V; rw [upto_all]; simp only [upto, opss, List.getD_cons_succ, List.getD_cons_zero]; after_results_simp
theorem V_arg4 (c : Dev nD) : V m c main_arg4 = m ((c : Thread nD τ).loc main_arg4) := by
  unfold V; rw [upto_all]; simp only [upto, opss, List.getD_cons_succ, List.getD_cons_zero]; after_results_simp
theorem V_arg5 (c : Dev nD) : V m c main_arg5 = m ((c : Thread nD τ).loc main_arg5) := by
  unfold V; rw [upto_all]; simp only [upto, opss, List.getD_cons_succ, List.getD_cons_zero]; after_results_simp

theorem sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub⟩
theorem fresh : (opss (F := F)).Forall fun ops => ops.Forall fun op => op.fresh = ∅ := by
  simp only [opss, List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss sub fresh main_chain

variable {s : ℕ → ℕ} {z : IVec S25 32} (hz : ∀ e : Fin 25, z (ix1 e) = BitVec.ofNat 32 (s e.val)) (hs : E s 25 = 7680)
variable (hm : m (((0 : Dev nD) : Thread nD τ).loc main_arg1) = z)

/-- The tables the host makes. -/
abbrev adm : (pcfg0 (F := F)).Adm := ⟨tbl z, ok hz hs⟩

include hm in
theorem tables_V (c : Dev nD) (k : Fin 5) : V m c (pre0.ref k) = tbl (F := F) z k := by
  obtain rfl : c = 0 := Subsingleton.elim _ _
  obtain ⟨h0, h1, h2, h3, h4⟩ := tables_at (F := F) (G := fun b => m ((0 : Dev nD), b)) (z := z) hm
  match k with
  | 0 => exact h0
  | 1 => exact h1
  | 2 => exact h2
  | 3 => exact h3
  | 4 => exact h4

/-- The pipeline's proof data at those tables. -/
abbrev dat (p : Fin 1) (c : Dev nD) : Dat τ (Elt F) Unit ℕ (UR sig nD τ) ℕ (cfg0 (adm (F := F) hz hs)) c := dats (V m) (adm hz hs) s p c

theorem start (c : Dev nD) : iprop(ΦA spec0 c ∗ ΦT pre0 (tbl (F := F) z) c) ⊢ ((dat m hz hs 0 c).Φ 0 : sProp 𝕄) := by
  show _ ⊢ Φn (V m) (adm hz hs) s c 0
  unfold ΦA Φn
  rw [scopedRest0_eq]
  simp only [owns_whole]
  iintro ⟨⟨⟨⟨%f0, S0⟩, ⟨%f1, S1⟩, ⟨%f2, S2⟩⟩, Hp⟩, HT⟩
  isplitl [S0 S1 S2]
  · iexists f0, f1, f2
    isplitr
    · ipureintro; exact inv_zero _ _ _ s _ _ _
    isplitl [S0]; · iexact S0
    isplitl [S1]; · iexact S1
    iexact S2
  isplitl [Hp]; · iexact Hp
  iexact HT

theorem finish (c : Dev nD) : ((dat m hz hs 0 c).Φ (Fin.last _) : sProp 𝕄) ⊢ ΦA spec0 c := by
  show Φn (V m) (adm hz hs) s c _ ⊢ _
  unfold ΦA Φn
  rw [scopedRest0_eq]
  simp only [owns_whole]
  iintro ⟨⟨%x0, %x1, %x2, -, S0, S1, S2⟩, Hp, -⟩
  isplitl [S0 S1 S2]
  · isplitl [S0]; · iexists x0; iexact S0
    isplitl [S1]; · iexists x1; iexact S1
    iexists x2; iexact S2
  iexact Hp

include hm in
set_option backward.isDefEq.respectTransparency.types false in
set_option maxHeartbeats 800000 in
/-- The run: every array of the pipeline ends as the proof data says, every other array as the launch found it, and no
    semaphore counts anything. -/
theorem run_main : θ_run defs (onTc (τ := τ) (main (F := F))) (s₀ m ρ)
    (fun r => FramePost (pin pcfgs fun _ => adm hz hs) (dat m hz hs) 0 (V m) r ∧ r.2.sem = fun _ => 0) :=
  Pipeline.θ_run_frameP_track (Q' := _) pcfgs (fun _ => adm hz hs) (dat m hz hs) (0 : Fin 1) launch0 defs₀ Variants.none m ρ main
    (fun c => (body_obligation (V m) (adm hz hs) hz hs rfl c).loose) (fun c => (dat m hz hs 0 c).share_full fun _ => rfl)
    (fun _ _ => rfl) (V m) (hmain m) (fun c w => A_eq (V m) (adm hz hs) s c w) (fun c k => tables_V m hm c k)
    (fun c => start m hz hs c) (fun c => finish m hz hs c) (fun _ h => h)

include hz hs hm in
/-- Every argument array ends as it was, and no semaphore counts anything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).1 0 |>.trans (((dat m hz hs 0 c).arrAt_in 0 rfl _).trans ((A_eq (V m) (adm hz hs) s c 0).trans (V_arg0 m c))),
      ((h.1 c).2 main_arg1 (Pipeline.mem_restRefs_of main_arg1 (by decide) (fun w => by fin_cases w <;> exact fun h => by cases h))).trans (V_arg1 m c),
      (h.1 c).1 1 |>.trans (((dat m hz hs 0 c).arrAt_in 1 rfl _).trans ((A_eq (V m) (adm hz hs) s c 1).trans (V_arg2 m c))),
      ((h.1 c).2 main_arg3 (Pipeline.mem_restRefs_of main_arg3 (by decide) (fun w => by fin_cases w <;> exact fun h => by cases h))).trans (V_arg3 m c),
      (h.1 c).1 3 |>.trans (((dat m hz hs 0 c).arrAt_in 3 rfl _).trans ((A_eq (V m) (adm hz hs) s c 3).trans (V_arg4 m c))),
      (h.1 c).1 4 |>.trans (((dat m hz hs 0 c).arrAt_in 4 rfl _).trans ((A_eq (V m) (adm hz hs) s c 4).trans (V_arg5 m c)))⟩, h.2⟩)
    (run_main m ρ hz hs hm)

end Cert.Proof.Launch
-- ==== Proof.Pre.lean ====
module

public import proofs.«01_k».proof.Pre_sizes_split_rows
public import proofs.«01_k».proof.Proof.Facts
@[expose] public section
noncomputable section

/-! # What the precondition says

The group sizes as natural numbers: none exceeds 7680, and the twenty-five of them add up to 7680. -/
namespace Cert.Proof.Pre

open Idealize.ShloMosaic Idealize.ShloMosaic.Routing Idealize.ShloMosaic.ValueIdx Idealize.ShloMosaic.WordCmp
open Cert.Proof.Tables

/-- The group sizes the words `z` hold. -/
def sizes (z : IVec Cert.KernelIdeal.S25 32) (e : ℕ) : ℕ := if h : e < 25 then (z (ix1 ⟨e, h⟩)).toNat else 0

theorem hz (z : IVec Cert.KernelIdeal.S25 32) (e : Fin 25) : z (ix1 e) = BitVec.ofNat 32 (sizes z e.val) := by
  unfold sizes
  rw [dif_pos e.isLt]
  rw [BitVec.ofNat_toNat, BitVec.setWidth_eq]

variable [Cert.Pre_sizes_split_rows.Facts] {F : FTy → Type} [FloatOps F]

theorem hs (a0 : FVec F Cert.KernelIdeal.S7680x5120 .bf16) (z : IVec Cert.KernelIdeal.S25 32)
    (a2 : FVec F Cert.KernelIdeal.S25x1536x5120 .fp8e4m3) (a3 : FVec F Cert.KernelIdeal.S25x1536 .f32)
    (a4 a5 : FVec F Cert.KernelIdeal.S7680x1536 .bf16)
    (h : (Cert.Pre_sizes_split_rows.fn a0 z a2 a3 a4 a5).1 = (fun _ => 1#1)
      ∧ (Cert.Pre_sizes_split_rows.fn a0 z a2 a3 a4 a5).2 = (fun _ => 1#1)) : E (sizes z) 25 = 7680 := by
  have hle : ∀ e : ℕ, sizes z e ≤ 7680 := by
    intro e
    unfold sizes
    split
    · next he =>
      have e1 := congrFun h.1 (ix1 ⟨e, he⟩)
      have e2 : IntOp.andi (IntOp.cmpi .sge (z (ix1 ⟨e, he⟩)) 0#32) (IntOp.cmpi .sle (z (ix1 ⟨e, he⟩)) 7680#32) = 1#1 := e1
      generalize z (ix1 ⟨e, he⟩) = w at e2 ⊢
      rw [cmpi_sge_eq, cmpi_sle_eq, andi_ofBool] at e2
      have e3 : 0 ≤ w.toInt ∧ w.toInt ≤ 7680 := by
        by_contra hn
        rw [show ((decide ((0#32).toInt ≤ w.toInt)) && decide (w.toInt ≤ (7680#32).toInt)) = false from by
          simpa [Bool.and_eq_false_iff] using hn] at e2
        exact absurd e2 (by decide)
      have := (toInt_nonneg_iff_lt_half w).1 e3.1
      rw [toInt_eq_toNat_of_lt_half this] at e3
      omega
    · omega
  have e1 := congrFun h.2 ix0
  have e2 : IntOp.cmpi .eq (Host.reduce IntOp.addi z (constantI shape0 32 0#32)
      (Cert.Pre_sizes_split_rows.Facts.reducesTo_S25_S_d0) (Cert.Pre_sizes_split_rows.Facts.h_S_) ix0) 7680#32 = 1#1 := e1
  rw [reduce_sum (N := 25) z (sizes z) (hz z), Facts.sum_range_eq] at e2
  have hb : E (sizes z) 25 ≤ 25 * 7680 := by
    refine (Finset.sum_le_card_nsmul _ _ 7680 fun i _ => hle i).trans ?_
    simp
  change IntOp.cmpi .eq (BitVec.ofNat 32 (E (sizes z) 25)) 7680#32 = 1#1 at e2
  have e3 := StableHlo.Predicate.cmpi_eq_iff.1 e2
  have e4 := congrArg BitVec.toNat e3
  rw [BitVec.toNat_ofNat] at e4
  have : (7680#32 : BitVec 32).toNat = 7680 := rfl
  omega

end Cert.Proof.Pre
-- ==== Proof.Same.lean ====
module

public import proofs.«01_k».proof.Defs
public import proofs.«01_k».proof.Proof.Gen.Kernel
public import proofs.«01_k».proof.Proof.Gen.KernelIdeal
public import proofs.«01_k».proof.Proof.Gen.Pre_sizes_split_rows
public import proofs.«01_k».proof.Proof.Gen.Kernel.Launch
public import proofs.«01_k».proof.Proof.Gen.KernelIdeal.Launch
public import Idealize.ShloMosaic.Adequacy
public import Idealize.ShloMosaic.Init
@[expose] public section
noncomputable section
/-! # The two prints of the kernel program are one program

The frame claim is made of the kernel program twice, once as its published text and once as the text the ideal
values are read from. The two prints differ in the namespace alone, so what is proved of one is proved of the other:
the region's table of bodies, the host lines and `@main` are shown equal here, piece by piece. -/
namespace Cert.Proof
open Idealize.ShloMosaic Idealize.SL.Sem
attribute [local instance] Cert.Kernel.Gen.facts Cert.KernelIdeal.Gen.facts Cert.Pre_sizes_split_rows.Gen.facts
set_option maxHeartbeats 100000
set_option maxRecDepth 65536
/-- The two region bodies are one. -/
theorem defs₀_eq : @Cert.Kernel.defs₀ Bits _ _  = @Cert.KernelIdeal.defs₀ Bits _ _ := by
  unfold Cert.Kernel.defs₀ Cert.KernelIdeal.defs₀
  refine congrArg Defs.onTc ?_
  funext l x
  match l, x with
  | ⟨0, _⟩, (t, s) => rfl
set_option maxHeartbeats 2000000 in
/-- The two tables of definitions are one. -/
theorem defs_eq : @Cert.Kernel.defs Bits _ _  = @Cert.KernelIdeal.defs Bits _ _ :=
  congrArg (Pipeline.defs (Cert.KernelIdeal.pcfgs (F := Bits))) defs₀_eq
/-! The host lines before the region, stretch by stretch. -/

theorem ops_eq : Cert.Kernel.Gen.hostOps0 (F := Bits) = Cert.KernelIdeal.Gen.hostOps0 (F := Bits) := rfl
theorem ops_1_eq : Cert.Kernel.Gen.hostOps0_1 (F := Bits) = Cert.KernelIdeal.Gen.hostOps0_1 (F := Bits) := rfl
theorem ops_2_eq : Cert.Kernel.Gen.hostOps0_2 (F := Bits) = Cert.KernelIdeal.Gen.hostOps0_2 (F := Bits) := rfl
theorem ops_3_eq : Cert.Kernel.Gen.hostOps0_3 (F := Bits) = Cert.KernelIdeal.Gen.hostOps0_3 (F := Bits) := rfl
theorem ops_4_eq : Cert.Kernel.Gen.hostOps0_4 (F := Bits) = Cert.KernelIdeal.Gen.hostOps0_4 (F := Bits) := rfl
theorem ops_5_eq : Cert.Kernel.Gen.hostOps0_5 (F := Bits) = Cert.KernelIdeal.Gen.hostOps0_5 (F := Bits) := rfl
theorem ops_6_eq : Cert.Kernel.Gen.hostOps0_6 (F := Bits) = Cert.KernelIdeal.Gen.hostOps0_6 (F := Bits) := rfl
theorem ops_7_eq : Cert.Kernel.Gen.hostOps0_7 (F := Bits) = Cert.KernelIdeal.Gen.hostOps0_7 (F := Bits) := rfl
theorem ops_8_eq : Cert.Kernel.Gen.hostOps0_8 (F := Bits) = Cert.KernelIdeal.Gen.hostOps0_8 (F := Bits) := rfl
theorem ops_9_eq : Cert.Kernel.Gen.hostOps0_9 (F := Bits) = Cert.KernelIdeal.Gen.hostOps0_9 (F := Bits) := rfl
theorem ops_10_eq : Cert.Kernel.Gen.hostOps0_10 (F := Bits) = Cert.KernelIdeal.Gen.hostOps0_10 (F := Bits) := rfl
theorem ops_11_eq : Cert.Kernel.Gen.hostOps0_11 (F := Bits) = Cert.KernelIdeal.Gen.hostOps0_11 (F := Bits) := rfl
theorem ops_12_eq : Cert.Kernel.Gen.hostOps0_12 (F := Bits) = Cert.KernelIdeal.Gen.hostOps0_12 (F := Bits) := rfl
theorem ops_13_eq : Cert.Kernel.Gen.hostOps0_13 (F := Bits) = Cert.KernelIdeal.Gen.hostOps0_13 (F := Bits) := rfl
theorem ops_14_eq : Cert.Kernel.Gen.hostOps0_14 (F := Bits) = Cert.KernelIdeal.Gen.hostOps0_14 (F := Bits) := rfl
set_option maxHeartbeats 2000000 in
/-- The two `@main`s are one. -/
theorem main_eq : @Cert.Kernel.main Bits _ _ = @Cert.KernelIdeal.main Bits _ _ := by
  funext c
  refine (Cert.Kernel.Gen.main_chain c).trans (Eq.trans ?_ (Cert.KernelIdeal.Gen.main_chain c).symm)
  refine congrArg Pipeline.chain ?_
  refine congr (congrArg List.cons (congrArg StableHlo.seq ops_eq)) ?_
  refine congr (congrArg List.cons (congrArg StableHlo.seq ops_1_eq)) ?_
  refine congr (congrArg List.cons (congrArg StableHlo.seq ops_2_eq)) ?_
  refine congr (congrArg List.cons (congrArg StableHlo.seq ops_3_eq)) ?_
  refine congr (congrArg List.cons (congrArg StableHlo.seq ops_4_eq)) ?_
  refine congr (congrArg List.cons (congrArg StableHlo.seq ops_5_eq)) ?_
  refine congr (congrArg List.cons (congrArg StableHlo.seq ops_6_eq)) ?_
  refine congr (congrArg List.cons (congrArg StableHlo.seq ops_7_eq)) ?_
  refine congr (congrArg List.cons (congrArg StableHlo.seq ops_8_eq)) ?_
  refine congr (congrArg List.cons (congrArg StableHlo.seq ops_9_eq)) ?_
  refine congr (congrArg List.cons (congrArg StableHlo.seq ops_10_eq)) ?_
  refine congr (congrArg List.cons (congrArg StableHlo.seq ops_11_eq)) ?_
  refine congr (congrArg List.cons (congrArg StableHlo.seq ops_12_eq)) ?_
  refine congr (congrArg List.cons (congrArg StableHlo.seq ops_13_eq)) ?_
  refine congr (congrArg List.cons (congrArg StableHlo.seq ops_14_eq)) ?_
  rfl
end Cert.Proof
end
-- ==== Proof.Frames.lean ====
module

public import proofs.«01_k».proof.Defs
public import proofs.«01_k».proof.Proof.Launch
public import proofs.«01_k».proof.Proof.Pre
public import proofs.«01_k».proof.Proof.Same
public import proofs.«01_k».proof.Proof.Gen.ReferenceIdeal.Frame
@[expose] public section
noncomputable section

/-! # The frame claims

The kernel program's frame is proved once, for every interpretation of the floats; the published text takes it at the
bits, through the equality of the two texts. -/
namespace Cert.Proof

open Idealize.ShloMosaic Idealize.SL.Sem

attribute [local instance] Cert.Kernel.Gen.facts Cert.KernelIdeal.Gen.facts Cert.ReferenceIdeal.Gen.facts Cert.Pre_sizes_split_rows.Gen.facts

theorem frame_KernelIdeal : Cert.quiescent_KernelIdeal := fun m ρ h =>
  Launch.frame (F := Ideal) m ρ (Pre.hz _) (Pre.hs _ _ _ _ _ _ (h 0)) rfl

theorem frame_Kernel : Cert.quiescent_Kernel := fun m ρ h => by
  have k := Launch.frame (F := Bits) m ρ (Pre.hz _) (Pre.hs _ _ _ _ _ _ (h 0)) rfl
  rw [← defs_eq, ← main_eq] at k
  exact k

theorem frame_ReferenceIdeal : Cert.quiescent_ReferenceIdeal := fun m ρ _ => Cert.ReferenceIdeal.Gen.frame m ρ

theorem frame_ReferenceIdeal_pre : Cert.quiescent_ReferenceIdeal_pre_sizes_split_rows := fun m ρ _ => Cert.ReferenceIdeal.Gen.frame m ρ

end Cert.Proof
-- ==== Proof.Ladder.lean ====
module

public import Idealize.ShloMosaic.PureOps.Ideal
public import Idealize.ShloMosaic.PureOps.Ideal.Laws
public import Idealize.ShloMosaic.Lib.ValueIdx
@[expose] public section
noncomputable section

/-! # The power of two of a row

The kernel finds the power of two next above `p` by nine comparisons; the reference by a logarithm rounded down. On
extended reals the two agree at every `p`. -/
namespace Cert.Proof.Ladder

open Idealize.ShloMosaic

/-- A pattern with a zero significand is a power of two. -/
theorem pow_bits (e : ℕ) (h0 : 0 < e) (h1 : e < 255) :
    Ideal.ofBits .f32 (BitVec.ofNat 32 (e * 2 ^ 23)) = (((2 : ℝ) ^ ((e : ℤ) - 127) : ℝ) : EReal) := by
  show Ideal.ieee 8 23 (BitVec.ofNat 32 (e * 2 ^ 23)) = _
  have hx : ((BitVec.ofNat 32 (e * 2 ^ 23)).extractLsb' 23 8).toNat = e := by
    rw [BitVec.extractLsb'_toNat, BitVec.toNat_ofNat, Nat.shiftRight_eq_div_pow]; omega
  have hf : ((BitVec.ofNat 32 (e * 2 ^ 23)).extractLsb' 0 23).toNat = 0 := by
    rw [BitVec.extractLsb'_toNat, BitVec.toNat_ofNat, Nat.shiftRight_eq_div_pow]; omega
  have hn : ((BitVec.ofNat 32 (e * 2 ^ 23)).extractLsb' (8 + 23) 1).toNat = 0 := by
    rw [BitVec.extractLsb'_toNat, BitVec.toNat_ofNat, Nat.shiftRight_eq_div_pow]; omega
  have hs : ((BitVec.ofNat 32 (e * 2 ^ 23)).extractLsb' (8 + 23) 1 == 1#1) = false := by
    rw [beq_eq_false_iff_ne]
    intro hc
    have := congrArg BitVec.toNat hc
    rw [hn] at this
    exact absurd this (by decide)
  unfold Ideal.ieee
  simp only [hx, hf, hs]
  rw [if_neg (by omega), if_neg (by omega)]
  have he : (2 : ℝ) ^ ((e : ℤ) - 127) = (2 : ℝ) ^ (23 : ℤ) * (2 : ℝ) ^ ((e : ℤ) - (2 ^ (8 - 1) - 1) - (23 : ℕ)) := by
    rw [← zpow_add₀ (by norm_num)]; congr 1; push_cast; ring
  rw [he]
  congr 1
  norm_num

/-- The three factors of comparison `n`: what `up` is compared at, what it and its inverse are multiplied by. -/
def hc : ℕ → EReal
  | 0 | 1 | 2 => Ideal.ofBits .f32 0x5F000000#32
  | 3 => Ideal.ofBits .f32 0x4F000000#32
  | 4 => Ideal.ofBits .f32 0x47000000#32
  | 5 => Ideal.ofBits .f32 0x43000000#32
  | 6 => Ideal.ofBits .f32 0x41000000#32
  | 7 => Ideal.ofBits .f32 0x40000000#32
  | _ => Ideal.ofBits .f32 0x3F800000#32
def kc : ℕ → EReal
  | 0 | 1 | 2 => Ideal.ofBits .f32 0x5F800000#32
  | 3 => Ideal.ofBits .f32 0x4F800000#32
  | 4 => Ideal.ofBits .f32 0x47800000#32
  | 5 => Ideal.ofBits .f32 0x43800000#32
  | 6 => Ideal.ofBits .f32 0x41800000#32
  | 7 => Ideal.ofBits .f32 0x40800000#32
  | _ => Ideal.ofBits .f32 0x40000000#32
def dc : ℕ → EReal
  | 0 | 1 | 2 => Ideal.ofBits .f32 0x1F800000#32
  | 3 => Ideal.ofBits .f32 0x2F800000#32
  | 4 => Ideal.ofBits .f32 0x37800000#32
  | 5 => Ideal.ofBits .f32 0x3B800000#32
  | 6 => Ideal.ofBits .f32 0x3D800000#32
  | 7 => Ideal.ofBits .f32 0x3E800000#32
  | _ => Ideal.ofBits .f32 0x3F000000#32

/-- Whether comparison `n` moves. -/
def above (p : EReal) (n : ℕ) (u : EReal) : BitVec 1 := Ideal.cmp .oge p (u * hc n)
/-- Comparison `n` on the power of two … -/
def su (p : EReal) (n : ℕ) (u : EReal) : EReal := Scalar.select (above p n u) (u * kc n) u
/-- … and on its inverse. -/
def sd (p : EReal) (n : ℕ) (u d : EReal) : EReal := Scalar.select (above p n u) (d * dc n) d

/-- The power of two and its inverse after `n` comparisons. -/
def U (p : EReal) : ℕ → EReal
  | 0 => Ideal.ofBits .f32 0x01000000#32
  | n + 1 => su p n (U p n)
def D (p : EReal) : ℕ → EReal
  | 0 => Ideal.ofBits .f32 0x7E000000#32
  | n + 1 => sd p n (U p n) (D p n)

/-- Whether `p` is a normal number below the greatest power of two. -/
def normal (p : EReal) : BitVec 1 :=
  IntOp.andi (Ideal.cmp .oge p (Ideal.ofBits .f32 0x00800000#32)) (Ideal.cmp .olt p (Ideal.ofBits .f32 0x7F000000#32))

/-- The reference's exponent. -/
def expo (p : EReal) : EReal :=
  Ideal.liftRound Int.floor (Ideal.div (Ideal.log p) (Ideal.log (Ideal.ofBits .f32 0x40000000#32))) + Ideal.ofBits .f32 0x3F800000#32

/-- The scale of a row whose largest magnitude is `p` times the greatest code, and its inverse. -/
def up (p : EReal) : EReal := Scalar.select (normal p) (Ideal.exp2 (expo p)) (Ideal.ofBits .f32 0x3F800000#32)
def dn (p : EReal) : EReal :=
  Scalar.select (normal p) (Ideal.exp2 (Ideal.ofBits .f32 0x00000000#32 - expo p)) (Ideal.ofBits .f32 0x3F800000#32)

/-- How far comparison `n` moves. -/
def wid : ℕ → ℕ
  | 0 | 1 | 2 => 64
  | 3 => 32
  | 4 => 16
  | 5 => 8
  | 6 => 4
  | 7 => 2
  | _ => 1

theorem consts (n : ℕ) (hn : n < 9) : hc n = (((2 : ℝ) ^ ((wid n : ℤ) - 1) : ℝ) : EReal) ∧ kc n = (((2 : ℝ) ^ (wid n : ℤ) : ℝ) : EReal)
    ∧ dc n = (((2 : ℝ) ^ (-(wid n : ℤ)) : ℝ) : EReal) := by
  match n, hn with
  | 0, _ | 1, _ | 2, _ => exact ⟨pow_bits 190 (by omega) (by omega), pow_bits 191 (by omega) (by omega), pow_bits 63 (by omega) (by omega)⟩
  | 3, _ => exact ⟨pow_bits 158 (by omega) (by omega), pow_bits 159 (by omega) (by omega), pow_bits 95 (by omega) (by omega)⟩
  | 4, _ => exact ⟨pow_bits 142 (by omega) (by omega), pow_bits 143 (by omega) (by omega), pow_bits 111 (by omega) (by omega)⟩
  | 5, _ => exact ⟨pow_bits 134 (by omega) (by omega), pow_bits 135 (by omega) (by omega), pow_bits 119 (by omega) (by omega)⟩
  | 6, _ => exact ⟨pow_bits 130 (by omega) (by omega), pow_bits 131 (by omega) (by omega), pow_bits 123 (by omega) (by omega)⟩
  | 7, _ => exact ⟨pow_bits 128 (by omega) (by omega), pow_bits 129 (by omega) (by omega), pow_bits 125 (by omega) (by omega)⟩
  | 8, _ => exact ⟨pow_bits 127 (by omega) (by omega), pow_bits 128 (by omega) (by omega), pow_bits 126 (by omega) (by omega)⟩

/-- The exponents still possible before comparison `n`. -/
def left : ℕ → ℕ
  | 0 => 256
  | 1 => 192
  | 2 => 128
  | 3 => 64
  | 4 => 32
  | 5 => 16
  | 6 => 8
  | 7 => 4
  | 8 => 2
  | _ => 1

theorem left_succ (n : ℕ) (hn : n < 9) : left n ≤ left (n + 1) + wid n ∧ wid n ≤ left (n + 1) := by
  match n, hn with
  | 0, _ | 1, _ | 2, _ | 3, _ | 4, _ | 5, _ | 6, _ | 7, _ | 8, _ => exact ⟨by decide, by decide⟩

theorem two_mul (a b : ℤ) : (((2 : ℝ) ^ a : ℝ) : EReal) * (((2 : ℝ) ^ b : ℝ) : EReal) = (((2 : ℝ) ^ (a + b) : ℝ) : EReal) := by
  rw [← EReal.coe_mul, zpow_add₀ (by norm_num)]

theorem two_le {a b : ℤ} (h : a ≤ b) : (2 : ℝ) ^ a ≤ (2 : ℝ) ^ b := zpow_le_zpow_right₀ (by norm_num) h

/-- After `n` comparisons the two are a power of two and its inverse, and its exponent is within `left n` of the right one. -/
theorem ladder (r : ℝ) (h0 : (2 : ℝ) ^ (-126 : ℤ) ≤ r) (h1 : r < (2 : ℝ) ^ (127 : ℤ)) (n : ℕ) (hn : n ≤ 9) :
    ∃ a : ℤ, U r n = (((2 : ℝ) ^ a : ℝ) : EReal) ∧ D r n = (((2 : ℝ) ^ (-a) : ℝ) : EReal) ∧ (2 : ℝ) ^ (a - 1) ≤ r
      ∧ r < (2 : ℝ) ^ (a - 1 + (left n : ℤ)) := by
  induction n with
  | zero =>
    refine ⟨-125, (pow_bits 2 (by omega) (by omega)).trans (by norm_num), (pow_bits 252 (by omega) (by omega)).trans (by norm_num),
      le_trans (two_le (by norm_num)) h0, lt_of_lt_of_le h1 (two_le (by decide))⟩
  | succ n ih =>
    obtain ⟨a, hu, hd, hl, hr⟩ := ih (by omega)
    obtain ⟨c1, c2, c3⟩ := consts n (by omega)
    obtain ⟨l1, l2⟩ := left_succ n (by omega)
    have hab : above r n (U r n) = BitVec.ofBool (decide ((2 : ℝ) ^ (a + ((wid n : ℤ) - 1)) ≤ r)) := by
      unfold above
      rw [hu, c1, two_mul]
      show BitVec.ofBool (decide _) = _
      congr 1
      exact decide_eq_decide.2 EReal.coe_le_coe_iff
    show ∃ a : ℤ, su r n (U r n) = _ ∧ sd r n (U r n) (D r n) = _ ∧ _
    unfold su sd
    rw [hab]
    by_cases hh : (2 : ℝ) ^ (a + ((wid n : ℤ) - 1)) ≤ r
    · refine ⟨a + wid n, ?_, ?_, ?_, ?_⟩
      · rw [decide_eq_true hh, hu, c2, two_mul]; rfl
      · rw [decide_eq_true hh, hd, c3, two_mul]
        show (((2 : ℝ) ^ (-a + -(wid n : ℤ)) : ℝ) : EReal) = _
        rw [← neg_add]
      · rw [show a + (wid n : ℤ) - 1 = a + ((wid n : ℤ) - 1) by ring]; exact hh
      · exact lt_of_lt_of_le hr (two_le (by omega))
    · refine ⟨a, ?_, ?_, hl, ?_⟩
      · rw [decide_eq_false hh, hu]; rfl
      · rw [decide_eq_false hh, hd]; rfl
      · exact lt_of_lt_of_le (not_le.1 hh) (two_le (by omega))

/-- The exponent of the reference is the one of the power of two next above. -/
theorem expo_eq (r : ℝ) (a : ℤ) (hl : (2 : ℝ) ^ (a - 1) ≤ r) (hr : r < (2 : ℝ) ^ a) : expo r = ((a : ℝ) : EReal) := by
  have h0 : 0 < r := lt_of_lt_of_le (zpow_pos (by norm_num) _) hl
  have h2 : 0 < Real.log 2 := Real.log_pos (by norm_num)
  have hf : ⌊Real.log r / Real.log 2⌋ = a - 1 := by
    rw [Int.floor_eq_iff]
    constructor
    · rw [le_div_iff₀ h2, ← Real.log_zpow]
      exact Real.log_le_log (zpow_pos (by norm_num) _) hl
    · rw [div_lt_iff₀ h2, show (((a - 1 : ℤ) : ℝ) + 1) = ((a : ℤ) : ℝ) by push_cast; ring, ← Real.log_zpow]
      exact Real.log_lt_log h0 hr
  unfold expo
  rw [show Ideal.ofBits .f32 0x40000000#32 = ((2 : ℝ) : EReal) from (pow_bits 128 (by omega) (by omega)).trans (by norm_num),
    show Ideal.ofBits .f32 0x3F800000#32 = ((1 : ℝ) : EReal) from (pow_bits 127 (by omega) (by omega)).trans (by norm_num),
    Ideal.log_coe, Ideal.log_coe, if_neg (not_le.2 h0), if_neg (by norm_num : ¬ (2 : ℝ) ≤ 0), Ideal.div_coe h2.ne', ← EReal.coe_mul,
    mul_one_div, Ideal.liftRound_coe, hf, ← EReal.coe_add]
  congr 1
  push_cast; ring

theorem normal_real (p : EReal) (h : normal p = 1#1) : ∃ r : ℝ, p = r ∧ (2 : ℝ) ^ (-126 : ℤ) ≤ r ∧ r < (2 : ℝ) ^ (127 : ℤ) := by
  unfold normal at h
  rw [show Ideal.ofBits .f32 0x00800000#32 = (((2 : ℝ) ^ (-126 : ℤ) : ℝ) : EReal) from pow_bits 1 (by omega) (by omega),
    show Ideal.ofBits .f32 0x7F000000#32 = (((2 : ℝ) ^ (127 : ℤ) : ℝ) : EReal) from pow_bits 254 (by omega) (by omega)] at h
  have h' : (((2 : ℝ) ^ (-126 : ℤ) : ℝ) : EReal) ≤ p ∧ p < (((2 : ℝ) ^ (127 : ℤ) : ℝ) : EReal) := by
    change IntOp.andi (BitVec.ofBool (decide ((((2 : ℝ) ^ (-126 : ℤ) : ℝ) : EReal) ≤ p))) (BitVec.ofBool (decide (p < (((2 : ℝ) ^ (127 : ℤ) : ℝ) : EReal)))) = 1#1 at h
    by_cases a : (((2 : ℝ) ^ (-126 : ℤ) : ℝ) : EReal) ≤ p <;> by_cases b : p < (((2 : ℝ) ^ (127 : ℤ) : ℝ) : EReal)
    · exact ⟨a, b⟩
    · rw [decide_eq_true a, decide_eq_false b] at h; exact absurd h (by decide)
    · rw [decide_eq_false a, decide_eq_true b] at h; exact absurd h (by decide)
    · rw [decide_eq_false a, decide_eq_false b] at h; exact absurd h (by decide)
  induction p with
  | bot => exact absurd h'.1 (by simp)
  | top => exact absurd h'.2 (by simp)
  | coe r => exact ⟨r, rfl, EReal.coe_le_coe_iff.1 h'.1, EReal.coe_lt_coe_iff.1 h'.2⟩

theorem select_congr {α : Type} {c : BitVec 1} {x y z : α} (h : c = 1#1 → x = y) : Scalar.select c x z = Scalar.select c y z := by
  by_cases hc : c = 1#1
  · rw [h hc]
  · exact (if_neg hc).trans (if_neg hc).symm

/-- The ladder's power of two is the reference's … -/
theorem up_eq (p : EReal) (n : ℕ) (h9 : n = 9) : Scalar.select (normal p) (U p n) (Ideal.ofBits .f32 0x3F800000#32) = up p := by
  refine select_congr fun hn => ?_
  obtain ⟨r, hp, h0, h1⟩ := normal_real p hn
  subst hp
  obtain ⟨a, hu, -, hl, hr⟩ := ladder r h0 h1 n h9.le
  rw [h9] at hr
  rw [hu, expo_eq r a hl (by simpa only [left, Nat.cast_one, sub_add_cancel] using hr), Ideal.exp2_coe]
  congr 1
  exact (Real.rpow_intCast 2 a).symm

/-- … and so is its inverse. -/
theorem dn_eq (p : EReal) (n : ℕ) (h9 : n = 9) : Scalar.select (normal p) (D p n) (Ideal.ofBits .f32 0x3F800000#32) = dn p := by
  refine select_congr fun hn => ?_
  obtain ⟨r, hp, h0, h1⟩ := normal_real p hn
  subst hp
  obtain ⟨a, -, hd, hl, hr⟩ := ladder r h0 h1 n h9.le
  rw [h9] at hr
  rw [hd, expo_eq r a hl (by simpa only [left, Nat.cast_one, sub_add_cancel] using hr), Ideal.ofBits_zero_f32, zero_sub, ← EReal.coe_neg, Ideal.exp2_coe]
  congr 1
  rw [show (-(a : ℝ)) = ((-a : ℤ) : ℝ) by push_cast; rfl]
  exact (Real.rpow_intCast 2 (-a)).symm

end Cert.Proof.Ladder
-- ==== Proof.Spec.lean ====
module

public import proofs.«01_k».proof.Proof.Ladder
public import Idealize.ShloMosaic.Lib.ValueLayout
public import Idealize.ShloMosaic.Lib.Pipeline.Value
public import Idealize.ShloMosaic.Lib.MatmulPlain
public import proofs.«01_k».proof.Proof.Tables
@[expose] public section
noncomputable section

/-! # The values of one row

What the program and the reference both compute of a row, on extended reals, and the reading at an index of the layout
operations both are printed with. -/
namespace Cert.Proof.Spec

open Idealize.ShloMosaic Idealize.ShloMosaic.ValueIdx Cert.Proof.Ladder

/-- The greatest magnitude of a row. -/
def mx {n : ℕ} (f : Fin n → EReal) : EReal :=
  (Finset.univ : Finset (Fin n)).fold max (FloatOps.ofBits (F := Ideal) .f32 0xFF800000#32) (fun k => FloatOps.absf (F := Ideal) (φ := .f32) (f k))

/-- A value brought between the least and the greatest code. -/
def clip (v : EReal) : EReal := min (Ideal.ofBits .f32 0x47600000#32) (max (Ideal.ofBits .f32 0xC7600000#32) v)

/-- The greatest magnitude of a row over the greatest code. -/
def q {n : ℕ} (f : Fin n → EReal) : EReal := mx f * Ideal.ofBits .f32 0x37924925#32

/-- A quantised row against a row of weights. -/
def dot {n : ℕ} (x w : Fin n → EReal) (sc : EReal) : EReal := (∑ k, clip (x k * dn (q x)) * w k) * up (q x) * sc

/-- The logistic function of the gate. -/
def sg (g : EReal) : EReal :=
  Ideal.div (Ideal.ofBits .f32 0x3F800000#32) (Ideal.ofBits .f32 0x3F800000#32 + Ideal.exp (Ideal.ofBits .f32 0x00000000#32 - g))

/-- The gradients of the gate and of the up projection. -/
def dg (h g u : EReal) : EReal :=
  h * u * sg g * (Ideal.ofBits .f32 0x3F800000#32 + g * (Ideal.ofBits .f32 0x3F800000#32 - sg g))
def du (h g : EReal) : EReal := h * g * sg g

/-- The greatest magnitude of both gradients of a row over the greatest code. -/
def jq {n : ℕ} (h g u : Fin n → EReal) : EReal :=
  max (mx fun k => dg (h k) (g k) (u k)) (mx fun k => du (h k) (g k)) * Ideal.ofBits .f32 0x37924925#32

/-! ## The results -/

section Results
variable (dy : (⟨2, ![7680, 5120]⟩ : Shape).Idx → EReal) (w : (⟨3, ![25, 1536, 5120]⟩ : Shape).Idx → EReal)
  (ws : (⟨2, ![25, 1536]⟩ : Shape).Idx → EReal) (g u : (⟨2, ![7680, 1536]⟩ : Shape).Idx → EReal) (s : ℕ → ℕ)

/-- The expert of a row, as an index of the weights. -/
def ex (R : Fin 7680) : Fin 25 := ⟨Tables.expert s R.val % 25, Nat.mod_lt _ (by norm_num)⟩
/-- The gradient of a row's hidden values. -/
def hid (R : Fin 7680) (n : Fin 1536) : EReal := dot (fun k => dy (ix2 R k)) (fun k => w (ix3 (ex s R) n k)) (ws (ix2 (ex s R) n))
/-- A row's gradients over their joint scale. -/
def joint (R : Fin 7680) : EReal := jq (hid dy w ws s R) (fun n => g (ix2 R n)) (fun n => u (ix2 R n))
def gate (R : Fin 7680) (n : Fin 1536) : EReal := clip (dg (hid dy w ws s R n) (g (ix2 R n)) (u (ix2 R n)) * dn (joint dy w ws g u s R))
def lin (R : Fin 7680) (n : Fin 1536) : EReal := clip (du (hid dy w ws s R n) (g (ix2 R n)) * dn (joint dy w ws g u s R))
/-- The codes of both gradients, and the scales of the rows. -/
def codes (y : (⟨3, ![2, 7680, 1536]⟩ : Shape).Idx) : EReal :=
  if (y 0).val = 0 then gate dy w ws g u s (y 1) (y 2) else lin dy w ws g u s (y 1) (y 2)
def scales (y : (⟨2, ![7680, 1]⟩ : Shape).Idx) : EReal := up (joint dy w ws g u s (y 0))
end Results

/-! ## Operations at an index -/

section Ops
variable {s : Shape} {φ : FTy} (i : s.Idx)
theorem ob (b : BitVec φ.bits) : Scalar.ofBits (F := Ideal) φ b = Ideal.ofBits φ b := rfl
theorem sel_ap {α : Type} (a : IVec s 1) (x y : s.Idx → α) : select a x y i = Scalar.select (a i) (x i) (y i) := rfl
theorem cmp_ap (p : CmpFPredicate) (x y : FVec Ideal s φ) : cmpf p x y i = Ideal.cmp p (x i) (y i) := rfl
theorem and_ap (x y : IVec s 1) : andi x y i = IntOp.andi (x i) (y i) := rfl
theorem bc_ap {α : Type} (x : α) : broadcast s x i = x := rfl
theorem exp_ap (x : FVec Ideal s φ) : exp x i = Ideal.exp (x i) := rfl
theorem su_mk (p u : EReal) (n : ℕ) : su p n u = Scalar.select (Ideal.cmp .oge p (u * hc n)) (u * kc n) u := rfl
theorem sd_mk (p u d : EReal) (n : ℕ) : sd p n u d = Scalar.select (above p n u) (d * dc n) d := rfl
theorem above_mk (p u : EReal) (n : ℕ) : above p n u = Ideal.cmp .oge p (u * hc n) := rfl
theorem U_succ (p : EReal) (n : ℕ) : U p (n + 1) = su p n (U p n) := rfl
theorem D_succ (p : EReal) (n : ℕ) : D p (n + 1) = sd p n (U p n) (D p n) := rfl
theorem U_zero (p : EReal) : U p 0 = Ideal.ofBits .f32 0x01000000#32 := by rw [U]
theorem D_zero (p : EReal) : D p 0 = Ideal.ofBits .f32 0x7E000000#32 := by rw [D]
theorem hc8 : hc 8 = Ideal.ofBits .f32 0x3F800000#32 := by rw [hc] <;> intro h <;> cases h
theorem kc8 : kc 8 = Ideal.ofBits .f32 0x40000000#32 := by rw [kc] <;> intro h <;> cases h
theorem dc8 : dc 8 = Ideal.ofBits .f32 0x3F000000#32 := by rw [dc] <;> intro h <;> cases h
end Ops

/-! ## Layout -/

section Layout
variable {m n : ℕ}

theorem lift_row (h : (⟨2, ![m, n]⟩ : Shape).Reduces [1] ⟨1, ![m]⟩) (i : Fin m) (k : Fin n) : h.lift (ix1 i) k = ix2 i k := by
  funext a
  match a with
  | ⟨0, _⟩ => rfl
  | ⟨1, _⟩ => rfl

/-- The greatest magnitudes of the rows, as a column. -/
theorem rowMax (x : FVec Ideal ⟨2, ![m, n]⟩ .f32) (h : (⟨2, ![m, n]⟩ : Shape).Reduces [1] ⟨1, ![m]⟩) (hφ : FKind.Formats .f32)
    (hacc : (0xFF800000#32 : BitVec (FTy.bits .f32)) = FKind.maximumf.neutral .f32 hφ) (hc : (⟨1, ![m]⟩ : Shape).ShapeCasts ⟨2, ![m, 1]⟩)
    (i : Fin m) :
    shapeCast ⟨2, ![m, 1]⟩ (multiReduction .maximumf [1] ⟨1, ![m]⟩ (absf x) 0xFF800000#32 h hφ hacc) hc (ix2 i (0 : Fin 1))
      = mx (fun k => x (ix2 i k)) := by
  rw [shapeCast_apply _ hc (ix2 i (0 : Fin 1)) (ix1 i) (by
    rw [Shape.rowMajor_val_one, Shape.rowMajor_val_two]
    show i.val = i.val * 1 + 0
    omega), Ideal.multiReduction_maximumf_single]
  refine congrArg (Finset.fold max _ · Finset.univ) (funext fun k => ?_)
  show absf x (h.lift (ix1 i) k) = _
  rw [lift_row h i k]
  rfl

theorem bc_col {α : Type} (x : (⟨2, ![m, 1]⟩ : Shape).Idx → α) (h : (⟨2, ![m, 1]⟩ : Shape).Broadcasts ⟨2, ![m, n]⟩) (i : Fin m) (k : Fin n) :
    broadcastTo ⟨2, ![m, n]⟩ x h (ix2 i k) = x (ix2 i (0 : Fin 1)) := by
  refine broadcastTo_apply x h _ _ fun a => ?_
  match a with
  | ⟨0, _⟩ =>
    show i.val = if m = 1 then 0 else i.val
    have : i.val < m := i.isLt
    split <;> omega
  | ⟨1, _⟩ => rfl

end Layout

end Cert.Proof.Spec
-- ==== Proof.TileValue.lean ====
module

public import proofs.«01_k».proof.Proof.Spec
public import proofs.«01_k».proof.Proof.Steps
@[expose] public section
set_option maxRecDepth 4096
noncomputable section

/-! # The values of a tile

The payloads of the kernel body, read at an index of the tile on extended reals: the ladder is the one of `Ladder`, the
rest are the row values of `Spec`. -/
namespace Cert.Proof.TileValue

open Idealize.ShloMosaic Idealize.ShloMosaic.ValueIdx
open Cert.KernelIdeal Cert.KernelIdeal.Gen Cert.Proof.Body Cert.Proof.Steps Cert.Proof.Ladder Cert.Proof.Spec

/-- The clipping of a product, as both bodies are printed. -/
theorem clip_ap {s : Shape} (x y : FVec Ideal s .f32) (j : s.Idx) :
    minimumf (broadcast s (Scalar.ofBits (F := Ideal) .f32 0x47600000#32)) (maximumf (broadcast s (Scalar.ofBits (F := Ideal) .f32 0xC7600000#32)) (mulf x y)) j
      = clip (x j * y j) := by
  simp -implicitDefEqProofs only [ob, minimumf_apply, maximumf_apply, mulf_apply, bc_ap, clip]

/-! ## The tile of `dy` -/

section Dy
variable (x : Vec Ideal S256x5120 .bf16)

theorem pay7_ap (j : S256x5120.Idx) : k0_pay7 (F := Ideal) x j = x j := rfl

theorem pay8_ap (i : Fin 256) : k0_pay8 (F := Ideal) x (ix2 i (0 : Fin 1)) = q (fun k => x (ix2 i k)) := by
  have h := rowMax (m := 256) (n := 5120) (k0_pay7 (F := Ideal) x) reduces_S256x5120_S256 (.inl rfl) rfl shapeCasts_S256_S256x1 i
  unfold k0_pay8 q
  simp -implicitDefEqProofs only [ob, mulf_apply, bc_ap]
  exact congrArg (fun t : EReal => t * Ideal.ofBits .f32 0x37924925#32) h

variable (i : S256x1.Idx)

theorem u0 : k0_pay9 (F := Ideal) i = U (k0_pay8 (F := Ideal) x i) 0 := by
  rw [U_zero]
  unfold k0_pay9
  simp -implicitDefEqProofs only [ob, bc_ap]
theorem u1 : k0_pay11 (F := Ideal) x i = U (k0_pay8 (F := Ideal) x i) 1 := by
  rw [show U (k0_pay8 (F := Ideal) x i) 1 = su (k0_pay8 (F := Ideal) x i) 0 (U (k0_pay8 (F := Ideal) x i) 0) from U_succ _ _, ← u0 x i]
  unfold k0_pay11 k0_pay10
  simp -implicitDefEqProofs only [su_mk, hc, kc, hc8, kc8, ob, sel_ap, cmp_ap, mulf_apply, bc_ap]
theorem u2 : k0_pay13 (F := Ideal) x i = U (k0_pay8 (F := Ideal) x i) 2 := by
  rw [show U (k0_pay8 (F := Ideal) x i) 2 = su (k0_pay8 (F := Ideal) x i) 1 (U (k0_pay8 (F := Ideal) x i) 1) from U_succ _ _, ← u1 x i]
  unfold k0_pay13 k0_pay12
  simp -implicitDefEqProofs only [su_mk, hc, kc, hc8, kc8, ob, sel_ap, cmp_ap, mulf_apply, bc_ap]
theorem u3 : k0_pay15 (F := Ideal) x i = U (k0_pay8 (F := Ideal) x i) 3 := by
  rw [show U (k0_pay8 (F := Ideal) x i) 3 = su (k0_pay8 (F := Ideal) x i) 2 (U (k0_pay8 (F := Ideal) x i) 2) from U_succ _ _, ← u2 x i]
  unfold k0_pay15 k0_pay14
  simp -implicitDefEqProofs only [su_mk, hc, kc, hc8, kc8, ob, sel_ap, cmp_ap, mulf_apply, bc_ap]
theorem u4 : k0_pay18 (F := Ideal) x i = U (k0_pay8 (F := Ideal) x i) 4 := by
  rw [show U (k0_pay8 (F := Ideal) x i) 4 = su (k0_pay8 (F := Ideal) x i) 3 (U (k0_pay8 (F := Ideal) x i) 3) from U_succ _ _, ← u3 x i]
  unfold k0_pay18 k0_pay17
  simp -implicitDefEqProofs only [su_mk, hc, kc, hc8, kc8, ob, sel_ap, cmp_ap, mulf_apply, bc_ap]
theorem a3 : k0_pay17 (F := Ideal) x i = above (k0_pay8 (F := Ideal) x i) 3 (U (k0_pay8 (F := Ideal) x i) 3) := by
  rw [← u3 x i]
  unfold k0_pay17
  simp -implicitDefEqProofs only [su_mk, sd_mk, above_mk, hc, kc, dc, hc8, kc8, dc8, ob, sel_ap, cmp_ap, mulf_apply, bc_ap]
theorem d3 : k0_pay16 (F := Ideal) x i = D (k0_pay8 (F := Ideal) x i) 3 := by
  rw [show D (k0_pay8 (F := Ideal) x i) 3 = sd (k0_pay8 (F := Ideal) x i) 2 (U (k0_pay8 (F := Ideal) x i) 2) (sd (k0_pay8 (F := Ideal) x i) 1 (U (k0_pay8 (F := Ideal) x i) 1) (sd (k0_pay8 (F := Ideal) x i) 0 (U (k0_pay8 (F := Ideal) x i) 0) (D (k0_pay8 (F := Ideal) x i) 0)))
    from (D_succ _ 2).trans (congrArg _ ((D_succ _ 1).trans (congrArg _ (D_succ _ 0)))), ← u2 x i, ← u1 x i, ← u0 x i, D_zero]
  unfold k0_pay16 k0_pay14 k0_pay12 k0_pay10
  simp -implicitDefEqProofs only [su_mk, sd_mk, above_mk, hc, kc, dc, hc8, kc8, dc8, ob, sel_ap, cmp_ap, mulf_apply, bc_ap]
end Dy

section Rest
variable (p v : Vec Ideal S256x1 .f32) (i : S256x1.Idx)

theorem pay1_ap : k0_pay1 (F := Ideal) p i = normal (p i) := by
  unfold k0_pay1 normal
  simp -implicitDefEqProofs only [ob, and_ap, cmp_ap, bc_ap]

variable (hv : v i = U (p i) 4)
include hv

theorem u5 : k0_pay20 (F := Ideal) p v i = U (p i) 5 := by
  rw [show U (p i) 5 = su (p i) 4 (U (p i) 4) from U_succ _ _, ← hv]
  unfold k0_pay20 k0_pay19
  simp -implicitDefEqProofs only [su_mk, hc, kc, hc8, kc8, ob, sel_ap, cmp_ap, mulf_apply, bc_ap]
theorem u6 : k0_pay22 (F := Ideal) p v i = U (p i) 6 := by
  rw [show U (p i) 6 = su (p i) 5 (U (p i) 5) from U_succ _ _, ← u5 p v i hv]
  unfold k0_pay22 k0_pay21
  simp -implicitDefEqProofs only [su_mk, hc, kc, hc8, kc8, ob, sel_ap, cmp_ap, mulf_apply, bc_ap]
theorem u7 : k0_pay24 (F := Ideal) p v i = U (p i) 7 := by
  rw [show U (p i) 7 = su (p i) 6 (U (p i) 6) from U_succ _ _, ← u6 p v i hv]
  unfold k0_pay24 k0_pay23
  simp -implicitDefEqProofs only [su_mk, hc, kc, hc8, kc8, ob, sel_ap, cmp_ap, mulf_apply, bc_ap]
theorem u8 : k0_pay26 (F := Ideal) p v i = U (p i) 8 := by
  rw [show U (p i) 8 = su (p i) 7 (U (p i) 7) from U_succ _ _, ← u7 p v i hv]
  unfold k0_pay26 k0_pay25
  simp -implicitDefEqProofs only [su_mk, hc, kc, hc8, kc8, ob, sel_ap, cmp_ap, mulf_apply, bc_ap]
theorem u9 : k0_pay29 (F := Ideal) p v i = U (p i) 9 := by
  rw [show U (p i) 9 = su (p i) 8 (U (p i) 8) from U_succ _ _, ← u8 p v i hv]
  unfold k0_pay29 k0_pay28
  simp -implicitDefEqProofs only [su_mk, hc, kc, hc8, kc8, ob, sel_ap, cmp_ap, mulf_apply, bc_ap]
theorem a8 : k0_pay28 (F := Ideal) p v i = above (p i) 8 (U (p i) 8) := by
  rw [← u8 p v i hv]
  unfold k0_pay28
  simp -implicitDefEqProofs only [su_mk, sd_mk, above_mk, hc, kc, dc, hc8, kc8, dc8, ob, sel_ap, cmp_ap, mulf_apply, bc_ap]
theorem d8 (d : Vec Ideal S256x1 .f32) (a : IVec S256x1 1) (hd : d i = D (p i) 3) (ha : a i = above (p i) 3 (U (p i) 3)) :
    k0_pay27 (F := Ideal) p d a v (Scalar.ofBits .f32 0x2F800000#32) i = D (p i) 8 := by
  rw [show D (p i) 8 = sd (p i) 7 (U (p i) 7) (sd (p i) 6 (U (p i) 6) (sd (p i) 5 (U (p i) 5) (sd (p i) 4 (U (p i) 4) (sd (p i) 3 (U (p i) 3) (D (p i) 3)))))
    from (D_succ _ 7).trans (congrArg _ ((D_succ _ 6).trans (congrArg _ ((D_succ _ 5).trans (congrArg _ ((D_succ _ 4).trans (congrArg _ (D_succ _ 3)))))))),
    ← u7 p v i hv, ← u6 p v i hv, ← u5 p v i hv, ← hv, ← hd, sd_mk (p i) (U (p i) 3), ← ha]
  unfold k0_pay27 k0_pay25 k0_pay23 k0_pay21 k0_pay19
  simp -implicitDefEqProofs only [su_mk, sd_mk, above_mk, hc, kc, dc, hc8, kc8, dc8, ob, sel_ap, cmp_ap, mulf_apply, bc_ap]
end Rest

theorem codes_ap (x : Vec Ideal S256x5120 .bf16) (i : Fin 256) (k : Fin 5120) :
    codesOf (F := Ideal) x (ix2 i k) = clip (x (ix2 i k) * dn (q (fun k => x (ix2 i k)))) := by
  unfold codesOf k0_pay2
  rw [shapeCast_self]
  rw [truncf_apply, clip_ap, pay7_ap]
  refine congrArg (fun t : EReal => clip (x (ix2 i k) * t)) ?_
  refine (bc_col (m := 256) (n := 5120) _ broadcasts_S256x1_S256x5120 i k).trans ?_
  have h4 := u4 x (ix2 i (0 : Fin 1))
  rw [← pay8_ap x i, ← dn_eq _ 9 rfl, D_succ _ 8, sd_mk, dc8, ← d8 _ _ _ h4 _ _ (d3 x _) (a3 x _), ← a8 _ _ _ h4, ← pay1_ap]
  simp -implicitDefEqProofs only [ob, sel_ap, mulf_apply, bc_ap]

theorem dys_ap (x : Vec Ideal S256x5120 .bf16) (i : Fin 256) :
    col (F := Ideal) (dysOf (F := Ideal) x) (ix2 i (0 : Fin 1)) = up (q (fun k => x (ix2 i k))) := by
  unfold col dysOf k0_pay3
  dsimp only
  rw [shapeCast_self, shapeCast_self]
  have e : ∀ (y : Vec Ideal S256x1 .f32), View.ld (broadcastTo S256x128 y broadcasts_S256x1_S256x128 : Vec Ideal S256x128 .f32)
      (Rect.unit (s := S256x128) ![0, 0] S256x1.size inb_S256x128_S256x1_0_0) (ix2 i (0 : Fin 1)) = y (ix2 i (0 : Fin 1)) := by
    intro y
    have e2 : (Rect.unit (s := S256x128) ![0, 0] S256x1.size inb_S256x128_S256x1_0_0).emb (ix2 i (0 : Fin 1)) = ix2 i (0 : Fin 128) := by
      funext a
      match a with
      | ⟨0, _⟩ => exact Fin.ext (show 0 + 1 * i.val = i.val by omega)
      | ⟨1, _⟩ => rfl
    refine (show _ = broadcastTo S256x128 y broadcasts_S256x1_S256x128 ((Rect.unit (s := S256x128) ![0, 0] S256x1.size inb_S256x128_S256x1_0_0).emb (ix2 i (0 : Fin 1))) from rfl).trans ?_
    rw [e2]
    exact bc_col (m := 256) (n := 128) y broadcasts_S256x1_S256x128 i 0
  have h4 := u4 x (ix2 i (0 : Fin 1))
  rw [e, ← pay8_ap x i, ← up_eq _ 9 rfl, ← u9 _ _ _ h4, ← pay1_ap]
  simp -implicitDefEqProofs only [ob, sel_ap, bc_ap]

/-! ## The results of a tile -/

section Out
variable (p : Vec Ideal S256x1536 .f32) (g u : Vec Ideal S256x1536 .bf16)

/-- A row of the tile. -/
abbrev rw1 (x : S256x1536.Idx → EReal) (i : Fin 256) : Fin 1536 → EReal := fun k => x (ix2 i k)

theorem pay31_ap (j : S256x1536.Idx) : k0_pay31 (F := Ideal) g j = sg (g j) := by
  unfold k0_pay31 k0_pay30 sg
  simp -implicitDefEqProofs only [ob, divf_apply, addf_apply, subf_apply, exp_ap, bc_ap, extf_apply]
theorem pay32_ap (j : S256x1536.Idx) : k0_pay32 (F := Ideal) p g u j = dg (p j) (g j) (u j) := by
  unfold k0_pay32 k0_pay30 dg
  simp -implicitDefEqProofs only [ob, mulf_apply, addf_apply, subf_apply, bc_ap, extf_apply, pay31_ap]
theorem pay33_ap (j : S256x1536.Idx) : k0_pay33 (F := Ideal) p g j = du (p j) (g j) := by
  unfold k0_pay33 k0_pay30 du
  simp -implicitDefEqProofs only [mulf_apply, extf_apply, pay31_ap]
theorem pay34_ap (i : Fin 256) : k0_pay34 (F := Ideal) p g u (ix2 i (0 : Fin 1)) = jq (rw1 p i) (rw1 g i) (rw1 u i) := by
  have h1 := rowMax (m := 256) (n := 1536) (k0_pay32 (F := Ideal) p g u) reduces_S256x1536_S256 (.inl rfl) rfl shapeCasts_S256_S256x1 i
  have h2 := rowMax (m := 256) (n := 1536) (k0_pay33 (F := Ideal) p g) reduces_S256x1536_S256 (.inl rfl) rfl shapeCasts_S256_S256x1 i
  simp -implicitDefEqProofs only [pay32_ap] at h1
  simp -implicitDefEqProofs only [pay33_ap] at h2
  unfold k0_pay34 jq
  simp -implicitDefEqProofs only [ob, mulf_apply, maximumf_apply, bc_ap]
  exact congrArg (fun t : EReal => t * Ideal.ofBits .f32 0x37924925#32) (congrArg₂ max h1 h2)

section Joint
variable (i : S256x1.Idx)

theorem w0 : k0_pay35 (F := Ideal) i = U (k0_pay34 (F := Ideal) p g u i) 0 := by
  rw [U_zero]
  unfold k0_pay35
  simp -implicitDefEqProofs only [ob, bc_ap]
theorem w1 : k0_pay38 (F := Ideal) p g u i = U (k0_pay34 (F := Ideal) p g u i) 1 := by
  rw [show U (k0_pay34 (F := Ideal) p g u i) 1 = su (k0_pay34 (F := Ideal) p g u i) 0 (U (k0_pay34 (F := Ideal) p g u i) 0) from U_succ _ _, ← w0 p g u i]
  unfold k0_pay38 k0_pay37
  simp -implicitDefEqProofs only [su_mk, hc, kc, hc8, kc8, ob, sel_ap, cmp_ap, mulf_apply, bc_ap]
theorem b0 : k0_pay37 (F := Ideal) p g u i = above (k0_pay34 (F := Ideal) p g u i) 0 (U (k0_pay34 (F := Ideal) p g u i) 0) := by
  rw [← w0 p g u i]
  unfold k0_pay37
  simp -implicitDefEqProofs only [su_mk, sd_mk, above_mk, hc, kc, dc, hc8, kc8, dc8, ob, sel_ap, cmp_ap, mulf_apply, bc_ap]

variable (r v : Vec Ideal S256x1 .f32)

theorem pay57_ap : k0_pay57 (F := Ideal) r i = normal (r i) := by
  unfold k0_pay57 normal
  simp -implicitDefEqProofs only [ob, and_ap, cmp_ap, bc_ap]

section Low
variable (hv : v i = U (r i) 1)
include hv
theorem w2 : k0_pay41 (F := Ideal) r v i = U (r i) 2 := by
  rw [show U (r i) 2 = su (r i) 1 (U (r i) 1) from U_succ _ _, ← hv]
  unfold k0_pay41 k0_pay40
  simp -implicitDefEqProofs only [su_mk, hc, kc, hc8, kc8, ob, sel_ap, cmp_ap, mulf_apply, bc_ap]
theorem w3 : k0_pay43 (F := Ideal) r v i = U (r i) 3 := by
  rw [show U (r i) 3 = su (r i) 2 (U (r i) 2) from U_succ _ _, ← w2 i r v hv]
  unfold k0_pay43 k0_pay42
  simp -implicitDefEqProofs only [su_mk, hc, kc, hc8, kc8, ob, sel_ap, cmp_ap, mulf_apply, bc_ap]
theorem w4 : k0_pay45 (F := Ideal) r v i = U (r i) 4 := by
  rw [show U (r i) 4 = su (r i) 3 (U (r i) 3) from U_succ _ _, ← w3 i r v hv]
  unfold k0_pay45 k0_pay44
  simp -implicitDefEqProofs only [su_mk, hc, kc, hc8, kc8, ob, sel_ap, cmp_ap, mulf_apply, bc_ap]
theorem w5 : k0_pay47 (F := Ideal) r v i = U (r i) 5 := by
  rw [show U (r i) 5 = su (r i) 4 (U (r i) 4) from U_succ _ _, ← w4 i r v hv]
  unfold k0_pay47 k0_pay46
  simp -implicitDefEqProofs only [su_mk, hc, kc, hc8, kc8, ob, sel_ap, cmp_ap, mulf_apply, bc_ap]
theorem w6 : k0_pay50 (F := Ideal) r v i = U (r i) 6 := by
  rw [show U (r i) 6 = su (r i) 5 (U (r i) 5) from U_succ _ _, ← w5 i r v hv]
  unfold k0_pay50 k0_pay49
  simp -implicitDefEqProofs only [su_mk, hc, kc, hc8, kc8, ob, sel_ap, cmp_ap, mulf_apply, bc_ap]
theorem b5 : k0_pay49 (F := Ideal) r v i = above (r i) 5 (U (r i) 5) := by
  rw [← w5 i r v hv]
  unfold k0_pay49
  simp -implicitDefEqProofs only [su_mk, sd_mk, above_mk, hc, kc, dc, hc8, kc8, dc8, ob, sel_ap, cmp_ap, mulf_apply, bc_ap]
theorem e5 (a : IVec S256x1 1) (ha : a i = above (r i) 0 (U (r i) 0)) :
    k0_pay48 (F := Ideal) r (k0_pay36 (F := Ideal)) a v (k0_pay39 (F := Ideal)) i = D (r i) 5 := by
  rw [show D (r i) 5 = sd (r i) 4 (U (r i) 4) (sd (r i) 3 (U (r i) 3) (sd (r i) 2 (U (r i) 2) (sd (r i) 1 (U (r i) 1) (sd (r i) 0 (U (r i) 0) (D (r i) 0)))))
    from (D_succ _ 4).trans (congrArg _ ((D_succ _ 3).trans (congrArg _ ((D_succ _ 2).trans (congrArg _ ((D_succ _ 1).trans (congrArg _ (D_succ _ 0)))))))),
    ← w4 i r v hv, ← w3 i r v hv, ← w2 i r v hv, ← hv, D_zero, sd_mk (r i) (U (r i) 0), ← ha]
  unfold k0_pay48 k0_pay46 k0_pay44 k0_pay42 k0_pay40 k0_pay39 k0_pay36
  simp -implicitDefEqProofs only [su_mk, sd_mk, above_mk, hc, kc, dc, hc8, kc8, dc8, ob, sel_ap, cmp_ap, mulf_apply, bc_ap]
end Low

variable (y : Vec Ideal S256x1 .f32) (hy : y i = U (r i) 6)
include hy
theorem w7 : k0_pay53 (F := Ideal) r y i = U (r i) 7 := by
  rw [show U (r i) 7 = su (r i) 6 (U (r i) 6) from U_succ _ _, ← hy]
  unfold k0_pay53 k0_pay52
  simp -implicitDefEqProofs only [su_mk, hc, kc, hc8, kc8, ob, sel_ap, cmp_ap, mulf_apply, bc_ap]
theorem w8 : k0_pay55 (F := Ideal) r y i = U (r i) 8 := by
  rw [show U (r i) 8 = su (r i) 7 (U (r i) 7) from U_succ _ _, ← w7 i r y hy]
  unfold k0_pay55 k0_pay54
  simp -implicitDefEqProofs only [su_mk, hc, kc, hc8, kc8, ob, sel_ap, cmp_ap, mulf_apply, bc_ap]
theorem scale_ap' : k0_pay58 (F := Ideal) r y i = up (r i) := by
  rw [← up_eq (r i) 9 rfl, U_succ _ 8, ← w8 i r y hy, ← pay57_ap]
  unfold k0_pay58 k0_pay56
  simp -implicitDefEqProofs only [su_mk, sd_mk, above_mk, hc, kc, dc, hc8, kc8, dc8, ob, sel_ap, cmp_ap, mulf_apply, bc_ap]
theorem inv_ap' (d d' : Vec Ideal S256x1 .f32) (a : IVec S256x1 1) (hd : d i = D (r i) 5) (hd' : d' i = D (r i) 5 * dc 5)
    (ha : a i = above (r i) 5 (U (r i) 5)) : k0_pay59 (F := Ideal) r d a y d' i = dn (r i) := by
  rw [← dn_eq (r i) 9 rfl, show D (r i) 9 = sd (r i) 8 (U (r i) 8) (sd (r i) 7 (U (r i) 7) (sd (r i) 6 (U (r i) 6) (sd (r i) 5 (U (r i) 5) (D (r i) 5))))
    from (D_succ _ 8).trans (congrArg _ ((D_succ _ 7).trans (congrArg _ ((D_succ _ 6).trans (congrArg _ (D_succ _ 5)))))),
    ← w8 i r y hy, ← w7 i r y hy, ← hy, sd_mk (r i) (U (r i) 5), ← hd', ← hd, ← ha, ← pay57_ap]
  unfold k0_pay59 k0_pay56 k0_pay54 k0_pay52
  simp -implicitDefEqProofs only [su_mk, sd_mk, above_mk, hc, kc, dc, hc8, kc8, dc8, ob, sel_ap, cmp_ap, mulf_apply, bc_ap]
end Joint

theorem scale_ap (i : Fin 256) : scaleOf (F := Ideal) p g u (ix2 i (0 : Fin 1)) = up (jq (rw1 p i) (rw1 g i) (rw1 u i)) := by
  rw [← pay34_ap]
  exact scale_ap' _ _ _ (w6 _ _ _ (w1 p g u _))

theorem inv_ap (i : Fin 256) : k0_pay59 (F := Ideal) (k0_pay34 (F := Ideal) p g u) (e91 p g u) (e94 p g u) (e97 p g u) (e99 p g u) (ix2 i (0 : Fin 1))
    = dn (jq (rw1 p i) (rw1 g i) (rw1 u i)) := by
  rw [← pay34_ap]
  have h1 := w1 p g u (ix2 i (0 : Fin 1))
  have h5 := e5 _ _ _ h1 _ (b0 p g u _)
  refine inv_ap' _ _ _ (w6 _ _ _ h1) _ _ _ h5 ?_ (b5 _ _ _ h1)
  rw [← h5]
  unfold e99 k0_pay51
  simp -implicitDefEqProofs only [dc, ob, mulf_apply, bc_ap]

theorem slab0_ap (a : Fin 1) (i : Fin 256) (n : Fin 1536) :
    slab0 (F := Ideal) p g u (ix3 a i n) = clip (dg (p (ix2 i n)) (g (ix2 i n)) (u (ix2 i n)) * dn (jq (rw1 p i) (rw1 g i) (rw1 u i))) := by
  unfold slab0 k0_pay5
  refine (shapeCast_ab_1ab_apply (a := 256) (b := 1536) _ shapeCasts_S256x1536_S1x256x1536 a i n).trans ?_
  unfold k0_pay60
  rw [truncf_apply, clip_ap, pay32_ap]
  refine congrArg (fun t : EReal => clip (dg (p (ix2 i n)) (g (ix2 i n)) (u (ix2 i n)) * t)) ?_
  exact (bc_col (m := 256) (n := 1536) _ broadcasts_S256x1_S256x1536 i n).trans (inv_ap p g u i)

theorem slab1_ap (a : Fin 1) (i : Fin 256) (n : Fin 1536) :
    slab1 (F := Ideal) p g u (ix3 a i n) = clip (du (p (ix2 i n)) (g (ix2 i n)) * dn (jq (rw1 p i) (rw1 g i) (rw1 u i))) := by
  unfold slab1 k0_pay6
  refine (shapeCast_ab_1ab_apply (a := 256) (b := 1536) _ shapeCasts_S256x1536_S1x256x1536 a i n).trans ?_
  rw [truncf_apply, clip_ap, pay33_ap]
  refine congrArg (fun t : EReal => clip (du (p (ix2 i n)) (g (ix2 i n)) * t)) ?_
  exact (bc_col (m := 256) (n := 1536) _ broadcasts_S256x1_S256x1536 i n).trans (inv_ap p g u i)

end Out

end Cert.Proof.TileValue
-- ==== Proof.Value.lean ====
module

public import proofs.«01_k».proof.Proof.TileValue
public import proofs.«01_k».proof.Proof.Run
public import Idealize.ShloMosaic.Lib.Pipeline.ValueKit.Geometry
@[expose] public section
set_option maxRecDepth 16384
noncomputable section

/-! # What the program computes

The two result arrays after the last grid point, on extended reals: every row is the one of `Spec`. -/
namespace Cert.Proof.Value

open Cert.KernelIdeal Cert.KernelIdeal.Gen
open Idealize.ShloMosaic Idealize.ShloMosaic.TcCoe Idealize.ShloMosaic.Pipeline
open Idealize.ShloMosaic.ValueIdx (ix2 ix3 mulf_apply)
open Idealize.SL Idealize.SL.RA
open Cert.Proof.Host Cert.Proof.Tables Cert.Proof.Facts Cert.Proof.Body Cert.Proof.Points Cert.Proof.Steps Cert.Proof.Run
open Cert.Proof.Ladder Cert.Proof.Spec Cert.Proof.TileValue

/-! ## The accumulated rows -/

theorem dot_eq : dot_S256x5120_S1536x5120_S256x1536_1_1_0_0_n_n = DotDims.transposedRhs 256 5120 1536 := rfl

theorem matmul_ap (c : FVec Ideal S256x5120 .fp8e5m2) (w : FVec Ideal S1536x5120 .fp8e4m3) (i : Fin 256) (n : Fin 1536) :
    matmul dot_S256x5120_S1536x5120_S256x1536_1_1_0_0_n_n none c w (constant S256x1536 .f32 0x00000000#32) (ix2 i n)
      = ∑ k : Fin 5120, c (ix2 i k) * w (ix2 n k) := by
  rw [dot_eq]
  refine (Ideal.matmul_transposedRhs_apply (M := 256) (K := 5120) (N := 1536) none c w _ i n).trans ?_
  rw [ValueIdx.constant_apply, Ideal.ofBits_zero_f32]
  exact zero_add _

theorem part_ap (dy : Vec Ideal S7680x5120 .bf16) (w : Vec Ideal S25x1536x5120 .fp8e4m3) (ws : Vec Ideal S25x1x1536 .f32) (τ e : ℕ)
    (i : Fin 256) (n : Fin 1536) :
    part (F := Ideal) dy w ws τ e (ix2 i n) = dot (fun k => dy (ix2 (row τ i) k))
      (fun k => w (ix3 (⟨e % 25, Nat.mod_lt _ (by norm_num)⟩ : Fin 25) n k)) (ws (ix3 (⟨e % 25, Nat.mod_lt _ (by norm_num)⟩ : Fin 25) (0 : Fin 1) n)) := by
  unfold part contrib
  rw [mulf_apply, mulf_apply, matmul_ap]
  have h1 := (bc_col (m := 256) (n := 1536) (col (F := Ideal) (dysOf (dyT dy τ))) broadcasts_S256x1_S256x1536 i n).trans (dys_ap (dyT dy τ) i)
  have h2 : broadcastTo S256x1536 (shapeCast S1x1536 (wsE ws e) shapeCasts_S1x1x1536_S1x1536) broadcasts_S1x1536_S256x1536 (ix2 i n)
      = ws (ix3 (⟨e % 25, Nat.mod_lt _ (by norm_num)⟩ : Fin 25) (0 : Fin 1) n) := by
    refine (ValueIdx.broadcastTo_1b_ab_apply (a := 256) (b := 1536) _ broadcasts_S1x1536_S256x1536 i n).trans ?_
    exact ValueIdx.shapeCast_1ab_ab_apply (a := 1) (b := 1536) (wsE ws e) shapeCasts_S1x1x1536_S1x1536 (0 : Fin 1) n
  have h3 : ∀ k, (shapeCast S1536x5120 (wE w e) shapeCasts_S1x1536x5120_S1536x5120 : FVec Ideal S1536x5120 .fp8e4m3) (ix2 n k)
      = w (ix3 (⟨e % 25, Nat.mod_lt _ (by norm_num)⟩ : Fin 25) n k) := fun k =>
    ValueIdx.shapeCast_1ab_ab_apply (a := 1536) (b := 5120) (wE w e) shapeCasts_S1x1536x5120_S1536x5120 n k
  have h4 : ∀ k, codesOf (F := Ideal) (dyT dy τ) (ix2 i k) * (shapeCast S1536x5120 (wE w e) shapeCasts_S1x1536x5120_S1536x5120 : FVec Ideal S1536x5120 .fp8e4m3) (ix2 n k)
      = clip (dy (ix2 (row τ i) k) * dn (q (fun k => dy (ix2 (row τ i) k)))) * w (ix3 (⟨e % 25, Nat.mod_lt _ (by norm_num)⟩ : Fin 25) n k) := fun k =>
    congrArg₂ (fun a b : EReal => a * b) (codes_ap (dyT dy τ) i k) (h3 k)
  unfold dot
  exact congrArg₂ (fun a b : EReal => a * b) (congrArg₂ (fun a b : EReal => a * b) (Finset.sum_congr rfl fun k _ => h4 k) h1) h2

variable (V₀ : (c : Dev nD) → (b : Ref sig .tc) → Buf (Elt Ideal) ((c : Thread nD τ).loc b))
variable (a : (pcfg0 (F := Ideal)).Adm) {s : ℕ → ℕ} (c : Dev nD)

/-- The scales of the weights without their unit axis. -/
abbrev Ws : (⟨2, ![25, 1536]⟩ : Shape).Idx → EReal := fun y => Aws V₀ c (ix3 (y 0) (0 : Fin 1) (y 1))

theorem row_val {τ : ℕ} (hτ : τ < 30) (i : Fin 256) : (row τ i).val = 256 * τ + i.val := by
  show (256 * τ + i.val) % 7680 = _
  have := i.isLt
  omega

theorem pT_ap {τ : ℕ} (hτ : τ < 30) (i : Fin 256) (n : Fin 1536) :
    pT (F := Ideal) (Ady V₀ c) (Aw V₀ c) (Aws V₀ c) s τ (ix2 i n) = hid (Ady V₀ c) (Aw V₀ c) (Ws V₀ c) s (row τ i) n := by
  refine (part_ap _ _ _ τ _ i n).trans ?_
  unfold hid
  have e : (⟨expert s (256 * τ + i.val) % 25, Nat.mod_lt _ (by norm_num)⟩ : Fin 25) = ex s (row τ i) :=
    Fin.ext (congrArg (fun R => expert s R % 25) (row_val hτ i).symm)
  exact congrArg (fun x : Fin 25 => dot (fun k => Ady V₀ c (ix2 (row τ i) k)) (fun k => Aw V₀ c (ix3 x n k)) (Aws V₀ c (ix3 x (0 : Fin 1) n))) e

/-! ## The results of a tile -/

theorem joint_ap {τ : ℕ} (hτ : τ < 30) (i : Fin 256) :
    jq (rw1 (pT (F := Ideal) (Ady V₀ c) (Aw V₀ c) (Aws V₀ c) s τ) i) (rw1 (guT (F := Ideal) (Ag V₀ c) τ) i) (rw1 (guT (F := Ideal) (Au V₀ c) τ) i)
      = joint (Ady V₀ c) (Aw V₀ c) (Ws V₀ c) (Ag V₀ c) (Au V₀ c) s (row τ i) := by
  unfold joint
  rw [show rw1 (pT (F := Ideal) (Ady V₀ c) (Aw V₀ c) (Aws V₀ c) s τ) i = hid (Ady V₀ c) (Aw V₀ c) (Ws V₀ c) s (row τ i) from
    funext fun n => pT_ap V₀ c hτ i n]
  rfl

theorem sclT_ap {τ : ℕ} (hτ : τ < 30) (i : Fin 256) :
    sclT V₀ s c τ (ix2 i (0 : Fin 1)) = scales (Ady V₀ c) (Aw V₀ c) (Ws V₀ c) (Ag V₀ c) (Au V₀ c) s (ix2 (row τ i) (0 : Fin 1)) := by
  unfold sclT scales
  rw [scale_ap, joint_ap V₀ c hτ]

theorem ix3_eta (x : S1x256x1536.Idx) : x = ix3 (x 0) (x 1) (x 2) := by
  funext k; match k with | ⟨0, _⟩ => rfl | ⟨1, _⟩ => rfl | ⟨2, _⟩ => rfl

/-- The codes of a tile's rows. -/
def tileCodes (s : ℕ → ℕ) (τ : ℕ) (y : S2x256x1536.Idx) : EReal :=
  codes (Ady V₀ c) (Aw V₀ c) (Ws V₀ c) (Ag V₀ c) (Au V₀ c) s (ix3 (y 0) (row τ (y 1)) (y 2))

theorem piece1 {τ : ℕ} (hτ : τ < 30) (x : S1x256x1536.Idx) :
    slab1 (F := Ideal) (pT (Ady V₀ c) (Aw V₀ c) (Aws V₀ c) s τ) (guT (Ag V₀ c) τ) (guT (Au V₀ c) τ) x = tileCodes V₀ c s τ (rect1.emb x) := by
  have e0 : (rect1.emb x 0).val = 1 := by rw [emb_unit]; have : (x 0).val < 1 := (x 0).isLt; show 1 + (x 0).val = 1; omega
  have e1 : rect1.emb x 1 = x 1 := Fin.ext (by show (rect1.emb x 1).val = (x 1).val; rw [emb_unit]; exact Nat.zero_add _)
  have e2 : rect1.emb x 2 = x 2 := Fin.ext (by show (rect1.emb x 2).val = (x 2).val; rw [emb_unit]; exact Nat.zero_add _)
  refine (congrArg (slab1 (F := Ideal) _ _ _) (ix3_eta x)).trans ((slab1_ap _ _ _ (x 0) (x 1) (x 2)).trans ?_)
  have h := joint_ap V₀ (s := s) c hτ (x 1)
  refine (congrArg₂ (fun a b : EReal => clip (du a (guT (F := Ideal) (Ag V₀ c) τ (ix2 (x 1 : Fin 256) (x 2 : Fin 1536))) * dn b)) (pT_ap V₀ (s := s) c hτ (x 1) (x 2)) h).trans ?_
  refine Eq.trans (b := lin (Ady V₀ c) (Aw V₀ c) (Ws V₀ c) (Ag V₀ c) (Au V₀ c) s (row τ (rect1.emb x 1)) (rect1.emb x 2)) ?_ (if_neg (fun h0 : (rect1.emb x 0).val = 0 => by omega)).symm
  exact congrArg₂ (fun (i : Fin 256) (n : Fin 1536) => lin (Ady V₀ c) (Aw V₀ c) (Ws V₀ c) (Ag V₀ c) (Au V₀ c) s (row τ i) n) e1.symm e2.symm

theorem piece0 {τ : ℕ} (hτ : τ < 30) (x : S1x256x1536.Idx) :
    slab0 (F := Ideal) (pT (Ady V₀ c) (Aw V₀ c) (Aws V₀ c) s τ) (guT (Ag V₀ c) τ) (guT (Au V₀ c) τ) x = tileCodes V₀ c s τ (rect0.emb x) := by
  have e0 : (rect0.emb x 0).val = 0 := by rw [emb_unit]; have : (x 0).val < 1 := (x 0).isLt; show 0 + (x 0).val = 0; omega
  have e1 : rect0.emb x 1 = x 1 := Fin.ext (by show (rect0.emb x 1).val = (x 1).val; rw [emb_unit]; exact Nat.zero_add _)
  have e2 : rect0.emb x 2 = x 2 := Fin.ext (by show (rect0.emb x 2).val = (x 2).val; rw [emb_unit]; exact Nat.zero_add _)
  refine (congrArg (slab0 (F := Ideal) _ _ _) (ix3_eta x)).trans ((slab0_ap _ _ _ (x 0) (x 1) (x 2)).trans ?_)
  have h := joint_ap V₀ (s := s) c hτ (x 1)
  refine (congrArg₂ (fun a b : EReal => clip (dg a (guT (F := Ideal) (Ag V₀ c) τ (ix2 (x 1 : Fin 256) (x 2 : Fin 1536)))
    (guT (F := Ideal) (Au V₀ c) τ (ix2 (x 1 : Fin 256) (x 2 : Fin 1536))) * dn b)) (pT_ap V₀ (s := s) c hτ (x 1) (x 2)) h).trans ?_
  refine Eq.trans (b := gate (Ady V₀ c) (Aw V₀ c) (Ws V₀ c) (Ag V₀ c) (Au V₀ c) s (row τ (rect0.emb x 1)) (rect0.emb x 2)) ?_ (if_pos e0).symm
  exact congrArg₂ (fun (i : Fin 256) (n : Fin 1536) => gate (Ady V₀ c) (Aw V₀ c) (Ws V₀ c) (Ag V₀ c) (Au V₀ c) s (row τ i) n) e1.symm e2.symm

theorem outT_ap {τ : ℕ} (hτ : τ < 30) (y : S2x256x1536.Idx) : outT V₀ s c τ y = tileCodes V₀ c s τ y := by
  unfold outT outOf
  refine View.canon_apply_of_pieces (Val := Elt Ideal) (S := S2x256x1536) (e := .fp8e5m2) (tileCodes V₀ c s τ) _ ?_ y (cover _ _ y)
  intro p hp
  simp only [List.mem_cons, List.not_mem_nil, or_false] at hp
  rcases hp with rfl | rfl
  · exact piece1 V₀ c hτ
  · exact piece0 V₀ c hτ

/-! ## The arrays -/

/-- A row's place in its tile. -/
theorem row_of (R : Fin 7680) : row (R.val / 256) ⟨R.val % 256, Nat.mod_lt _ (by norm_num)⟩ = R := by
  apply Fin.ext
  show (256 * (R.val / 256) + R.val % 256) % 7680 = R.val
  have := R.isLt
  omega

theorem rd3m {α : Type} {m0 m1 m2 n0 n1 n2 : ℕ} (A : (⟨3, ![m0, m1, m2]⟩ : Shape).Idx → α) (ix : Fin 3 → ℕ) (e : ℕ) (hix : ix = ![0, e, 0])
    (inb : ∀ x, ix x * (![n0, n1, n2] : Fin 3 → ℕ) x + (![n0, n1, n2] : Fin 3 → ℕ) x ≤ (![m0, m1, m2] : Fin 3 → ℕ) x)
    (j : (⟨3, ![n0, n1, n2]⟩ : Shape).Idx) (i0 : Fin m0) (i1 : Fin m1) (i2 : Fin m2) (h0 : (j 0).val = i0.val) (h1 : e * n1 + (j 1).val = i1.val)
    (h2 : (j 2).val = i2.val) :
    A ((Rect.unit (s := ⟨3, ![m0, m1, m2]⟩) (fun x => ix x * (![n0, n1, n2] : Fin 3 → ℕ) x) ![n0, n1, n2] inb).emb j) = A (ix3 i0 i1 i2) := by
  subst hix
  refine congrArg A (funext fun x => Fin.ext ((emb_unit _ _ _ j x).trans ?_))
  match x with
  | ⟨0, _⟩ => show 0 * n0 + (j 0).val = i0.val; omega
  | ⟨1, _⟩ => exact h1
  | ⟨2, _⟩ => show 0 * n2 + (j 2).val = i2.val; omega

section Arrays
variable {z : IVec S25 32} (hz : ∀ e : Fin 25, z (ValueIdx.ix1 e) = BitVec.ofNat 32 (s e.val)) (hs : E s 25 = 7680) (ha : a.1 = tbl z)
include hz hs ha

/-- Every tile has a last grid point. -/
theorem last_of {τ : ℕ} (hτ : τ < 30) : ∃ t : Fin (cfg0 a).N, tile s t.val = τ ∧ (t.val + 1 = 55 ∨ tile s (t.val + 1) ≠ tile s t.val) := by
  obtain ⟨j, hj, hjt, -, -⟩ := visit_of_row s hs (show 256 * τ < 7680 by omega)
  rw [Nat.mul_div_cancel_left _ (by norm_num)] at hjt
  have hj55 : j < 55 := by have := total_le s hs; omega
  have key : ∀ d j, j + d = 54 → tile s j = τ → ∃ t < 55, tile s t = τ ∧ (t + 1 = 55 ∨ tile s (t + 1) ≠ tile s t) := by
    intro d
    induction d with
    | zero => exact fun j h ht => ⟨j, by omega, ht, Or.inl (by omega)⟩
    | succ d ih =>
      intro j h ht
      by_cases hn : tile s (j + 1) = tile s j
      · exact ih (j + 1) (by omega) (hn.trans ht)
      · exact ⟨j, by omega, ht, Or.inr hn⟩
  obtain ⟨t, ht, h1, h2⟩ := key (54 - j) j (by omega) hjt
  exact ⟨⟨t, lt_of_lt_of_eq ht N_0.symm⟩, h1, h2⟩

theorem emb_5 {α : Type} (G : S2x7680x1536.Idx → α) (t : Fin (cfg0 a).N) (y : S2x256x1536.Idx) :
    G ((((cfg0 a).win 5).blk t).view.emb y) = G (ix3 (y 0) (row (tile s t.val) (y 1)) (y 2)) := by
  have hi := tr5 (F := Ideal) hz hs (grid0.coords t)
  rw [num_coords, ← ha] at hi
  have ht := tile_lt s hs t.val
  have inb := inb_of (hinb0 a.1 a.2 5 (grid0.coords t))
  refine Eq.trans (b := G ((Rect.unit (s := S2x7680x1536) (fun x => cc0_transform_5 k0_off1_inb numel1_S1 a.1 (grid0.coords t) x * S2x256x1536.size x) S2x256x1536.size inb).emb y)) rfl ?_
  refine rd3m G _ _ hi inb y (y 0) (row (tile s t.val) (y 1)) (y 2) rfl ?_ rfl
  have hj : (y 1).val < 256 := (y 1).isLt
  show tile s t.val * 256 + (y 1).val = (256 * tile s t.val + (y 1).val) % 7680
  omega

theorem emb_6 {α : Type} (G : S7680x1.Idx → α) (t : Fin (cfg0 a).N) (y : S256x1.Idx) :
    G ((((cfg0 a).win 6).blk t).view.emb y) = G (ix2 (row (tile s t.val) (y 0)) (0 : Fin 1)) := by
  have hi := tr6 (F := Ideal) hz hs (grid0.coords t)
  rw [num_coords, ← ha] at hi
  have ht := tile_lt s hs t.val
  have inb := inb_of (hinb0 a.1 a.2 6 (grid0.coords t))
  refine Eq.trans (b := G ((Rect.unit (s := S7680x1) (fun x => cc0_transform_6 k0_off1_inb numel1_S1 a.1 (grid0.coords t) x * S256x1.size x) S256x1.size inb).emb y)) rfl ?_
  have hj : (y 0).val < 256 := (y 0).isLt
  have hj1 : (y 1).val < 1 := (y 1).isLt
  refine rd2 G _ _ hi inb y (row (tile s t.val) (y 0)) (0 : Fin 1) ?_ (show (y 1).val = 0 by omega)
  show tile s t.val * 256 + (y 0).val = (256 * tile s t.val + (y 0).val) % 7680
  omega

theorem final_5 : (dats V₀ a s 0 c).arrAt 5 (cfg0 a).N = codes (Ady V₀ c) (Aw V₀ c) (Ws V₀ c) (Ag V₀ c) (Au V₀ c) s := by
  have h5 := fun t => after_5 V₀ a s c t
  have hX := fun (τ : ℕ) (hτ : τ < 30) => outT_ap V₀ (s := s) c hτ
  have hT : ∀ τ (y : S2x256x1536.Idx), tileCodes V₀ c s τ y = codes (Ady V₀ c) (Aw V₀ c) (Ws V₀ c) (Ag V₀ c) (Au V₀ c) s (ix3 (y 0) (row τ (y 1)) (y 2)) := fun τ y => rfl
  generalize codes (Ady V₀ c) (Aw V₀ c) (Ws V₀ c) (Ag V₀ c) (Au V₀ c) s = G at hT ⊢
  generalize outT V₀ s c = X at h5 hX
  generalize tileCodes V₀ c s = T at hX hT
  refine (dats V₀ a s 0 c).arrAt_eq_of_emb 5 G (fun t hf (y : S2x256x1536.Idx) => ?_) fun (i : S2x7680x1536.Idx) => ?_
  · rw [h5]
    refine Eq.trans (b := X (tile s t.val) y) rfl ?_
    exact ((hX _ (tile_lt s hs t.val) y).trans (hT _ y)).trans (emb_5 a hz hs ha G t y).symm
  · obtain ⟨t, ht, hl⟩ := last_of a hz hs ha (τ := (i 1).val / 256) (by have : (i 1).val < 7680 := (i 1).isLt; omega)
    refine ⟨t, (flush_5 a hz hs ha t).mpr hl, ?_⟩
    have e := emb_5 a hz hs ha (fun x => x) t (ix3 (i 0 : Fin 2) (⟨(i 1).val % 256, Nat.mod_lt _ (by norm_num)⟩ : Fin 256) (i 2 : Fin 1536))
    have e2 : ix3 (i 0 : Fin 2) (row (tile s t.val) (⟨(i 1).val % 256, Nat.mod_lt _ (by norm_num)⟩ : Fin 256)) (i 2 : Fin 1536) = i := by
      rw [ht]
      funext k
      match k with
      | ⟨0, _⟩ => rfl
      | ⟨1, _⟩ => exact row_of (i 1)
      | ⟨2, _⟩ => rfl
    rw [← e.trans e2]
    exact Finset.mem_map_of_mem _ (Finset.mem_univ _)

theorem final_6 : (dats V₀ a s 0 c).arrAt 6 (cfg0 a).N = scales (Ady V₀ c) (Aw V₀ c) (Ws V₀ c) (Ag V₀ c) (Au V₀ c) s := by
  have h6 := fun t => after_6 V₀ a s c t
  have hX := fun (τ : ℕ) (hτ : τ < 30) => sclT_ap V₀ (s := s) c hτ
  generalize scales (Ady V₀ c) (Aw V₀ c) (Ws V₀ c) (Ag V₀ c) (Au V₀ c) s = G at hX ⊢
  generalize sclT V₀ s c = X at h6 hX
  have col : ∀ y : S256x1.Idx, y = ix2 (y 0) (0 : Fin 1) := fun y => by
    funext k
    match k with
    | ⟨0, _⟩ => rfl
    | ⟨1, _⟩ => exact Subsingleton.elim (α := Fin 1) _ _
  refine (dats V₀ a s 0 c).arrAt_eq_of_emb 6 G (fun t hf (y : S256x1.Idx) => ?_) fun (i : S7680x1.Idx) => ?_
  · rw [h6]
    refine Eq.trans (b := X (tile s t.val) y) rfl ?_
    exact ((congrArg (X (tile s t.val)) (col y)).trans (hX _ (tile_lt s hs t.val) (y 0))).trans (emb_6 a hz hs ha G t y).symm
  · obtain ⟨t, ht, hl⟩ := last_of a hz hs ha (τ := (i 0).val / 256) (by have : (i 0).val < 7680 := (i 0).isLt; omega)
    refine ⟨t, (flush_6 a hz hs ha t).mpr hl, ?_⟩
    have e := emb_6 a hz hs ha (fun x => x) t (ix2 (⟨(i 0).val % 256, Nat.mod_lt _ (by norm_num)⟩ : Fin 256) (0 : Fin 1))
    have e2 : ix2 (row (tile s t.val) (⟨(i 0).val % 256, Nat.mod_lt _ (by norm_num)⟩ : Fin 256)) (0 : Fin 1) = i := by
      rw [ht]
      funext k
      match k with
      | ⟨0, _⟩ => exact row_of (i 0)
      | ⟨1, _⟩ => exact Subsingleton.elim (α := Fin 1) _ _
    rw [← e.trans e2]
    exact Finset.mem_map_of_mem _ (Finset.mem_univ _)

end Arrays

end Cert.Proof.Value
-- ==== Proof.KernelResult.lean ====
module

public import proofs.«01_k».proof.Proof.Launch
public import proofs.«01_k».proof.Proof.Value
@[expose] public section
set_option maxRecDepth 16384
noncomputable section

/-! # The results of the kernel

The run on extended reals: the result arrays end as the codes and the scales of the arguments. -/
namespace Cert.Proof.KernelResult

open Idealize.ShloMosaic Idealize.ShloMosaic.TcCoe Idealize.ShloMosaic.Tactic Idealize.ShloMosaic.Pipeline Idealize.SL.Sem
open Idealize.ShloMosaic.ValueIdx (ix1 ix2 ix3)
open Cert.KernelIdeal Cert.KernelIdeal.Gen Cert.Proof.Spec Cert.Proof.Run Cert.Proof.Launch Cert.Proof.Value
open Cert.Proof.Tables (E)

variable (m : (ℓ : Loc nD τ sig) → Buf (Elt Ideal) ℓ) (ρ : Dev nD → PrngReg) (c : Dev nD)

/-- The codes of the arguments. -/
def resCodes (s : ℕ → ℕ) : (⟨3, ![2, 7680, 1536]⟩ : Shape).Idx → EReal :=
  codes (m ((c : Thread nD τ).loc main_arg0)) (m ((c : Thread nD τ).loc main_arg2)) (m ((c : Thread nD τ).loc main_arg3))
    (m ((c : Thread nD τ).loc main_arg4)) (m ((c : Thread nD τ).loc main_arg5)) s
/-- The scales of the arguments. -/
def resScales (s : ℕ → ℕ) : (⟨2, ![7680, 1]⟩ : Shape).Idx → EReal :=
  scales (m ((c : Thread nD τ).loc main_arg0)) (m ((c : Thread nD τ).loc main_arg2)) (m ((c : Thread nD τ).loc main_arg3))
    (m ((c : Thread nD τ).loc main_arg4)) (m ((c : Thread nD τ).loc main_arg5)) s

theorem V_v84 : V (F := Ideal) m c main_v84 = shapeCast S25x1x1536 (m ((c : Thread nD τ).loc main_arg3)) shapeCasts_S25x1536_S25x1x1536 :=
  Host.scale_at (F := Ideal) (fun b => m (c, b))

/-- The scales of the weights, without the unit axis the host puts in. -/
theorem Ws_eq : Ws (V (F := Ideal) m) c = m ((c : Thread nD τ).loc main_arg3) := by
  funext y
  unfold Ws
  show (V (F := Ideal) m c main_v84 : Vec Ideal S25x1x1536 .f32) _ = _
  rw [V_v84]
  refine shapeCast_apply _ _ _ y ?_
  rw [Shape.rowMajor_val_three, Shape.rowMajor_val_two]
  show (y 0).val * 1536 + (y 1).val = ((y 0).val * 1 + 0) * 1536 + (y 1).val
  omega

variable {s : ℕ → ℕ} {z : IVec S25 32} (hz : ∀ e : Fin 25, z (ix1 e) = BitVec.ofNat 32 (s e.val)) (hs : E s 25 = 7680)
variable (hm : m (((0 : Dev nD) : Thread nD τ).loc main_arg1) = z)

theorem end5 : (dat m hz hs 0 c).arrAt 5 (cfg0 (adm (F := Ideal) hz hs)).N = resCodes m c s := by
  refine (final_5 (V m) (adm (F := Ideal) hz hs) c hz hs rfl).trans ?_
  unfold resCodes Ady Aw Ag Au
  rw [Ws_eq, V_arg0, V_arg2, V_arg4, V_arg5]
theorem end6 : (dat m hz hs 0 c).arrAt 6 (cfg0 (adm (F := Ideal) hz hs)).N = resScales m c s := by
  refine (final_6 (V m) (adm (F := Ideal) hz hs) c hz hs rfl).trans ?_
  unfold resScales Ady Aw Ag Au
  rw [Ws_eq, V_arg0, V_arg2, V_arg4, V_arg5]

include hz hs hm in
/-- The kernel's run leaves the codes and the scales. -/
theorem results : θ_run (defs (F := Ideal)) (onTc (τ := τ) (main (F := Ideal))) ⟨m, fun _ => 0, ρ⟩ (fun r => ∀ c : Dev nD,
    r.2.mem ((c.tc : Thread nD τ).loc main_v85_0) = resCodes m c s ∧ r.2.mem ((c.tc : Thread nD τ).loc main_v85_1) = resScales m c s) :=
  (θ_run defs _ _).mono (fun _ h c => ⟨((h.1 c).1 5).trans (end5 m c hz hs), ((h.1 c).1 6).trans (end6 m c hz hs)⟩) (run_main m ρ hz hs hm)

end Cert.Proof.KernelResult
-- ==== Proof.RefRow.lean ====
module

public import proofs.«01_k».proof.Proof.Spec
public import proofs.«01_k».proof.Proof.TileValue
public import proofs.«01_k».proof.Proof.Run
public import proofs.«01_k».proof.Proof.Gen.ReferenceIdeal.Frame
public import Idealize.ShloMosaic.Lib.WordSum
public import Idealize.ShloMosaic.Lib.WordCmp
@[expose] public section
set_option maxRecDepth 16384
noncomputable section

/-! # The values of the reference

The payloads of the reference's body, read at an index on extended reals. -/
namespace Cert.Proof.RefRow

open Idealize.ShloMosaic Idealize.ShloMosaic.ValueIdx
open Cert.ReferenceIdeal Cert.ReferenceIdeal.Gen Cert.Proof.Ladder Cert.Proof.Spec Cert.Proof.Tables
open Cert.Proof.TileValue (clip_ap)
open Idealize.ShloMosaic.WordCmp
open Cert.Proof.Body (z2)
open Cert.Proof.Run (emb_unit)

/-! ## The scale of a row -/

section Scale
variable {s : Shape} {φ : FTy} (i : s.Idx)
theorem log_ap (x : FVec Ideal s φ) : log x i = Ideal.log (x i) := rfl
theorem exp2_ap (x : FVec Ideal s φ) : exp2 x i = Ideal.exp2 (x i) := rfl
theorem floor_ap (x : FVec Ideal s φ) : floor x i = Ideal.liftRound Int.floor (x i) := rfl
end Scale

section Dy
variable (x : Vec Ideal S7680x5120 .bf16)

theorem pay3_ap (j : S7680x5120.Idx) : k0_pay3 (F := Ideal) x j = x j := rfl

theorem pay4_ap (i : Fin 7680) : k0_pay4 (F := Ideal) x (ix2 i (0 : Fin 1)) = q (fun k => x (ix2 i k)) := by
  have h := rowMax (m := 7680) (n := 5120) (k0_pay3 (F := Ideal) x) reduces_S7680x5120_S7680 (.inl rfl) rfl shapeCasts_S7680_S7680x1 i
  unfold k0_pay4 q
  simp -implicitDefEqProofs only [ob, mulf_apply, bc_ap]
  exact congrArg (fun t : EReal => t * Ideal.ofBits .f32 0x37924925#32) h

theorem pay5_ap (j : S7680x1.Idx) : k0_pay5 (F := Ideal) x j = expo (k0_pay4 (F := Ideal) x j) := by
  unfold k0_pay5 expo
  simp -implicitDefEqProofs only [ob, log_ap, floor_ap, divf_apply, addf_apply, bc_ap]
theorem pay6_ap (j : S7680x1.Idx) : k0_pay6 (F := Ideal) x j = normal (k0_pay4 (F := Ideal) x j) := by
  unfold k0_pay6 normal
  simp -implicitDefEqProofs only [ob, and_ap, cmp_ap, bc_ap]
theorem pay7_ap (i : Fin 7680) : k0_pay7 (F := Ideal) x (ix2 i (0 : Fin 1)) = up (q (fun k => x (ix2 i k))) := by
  rw [← pay4_ap]
  unfold k0_pay7 up
  simp -implicitDefEqProofs only [ob, sel_ap, exp2_ap, bc_ap, pay5_ap, pay6_ap]
theorem pay8_ap (i : Fin 7680) (k : Fin 5120) :
    k0_pay8 (F := Ideal) x (ix2 i k) = clip (x (ix2 i k) * dn (q (fun k => x (ix2 i k)))) := by
  unfold k0_pay8
  rw [truncf_apply, clip_ap, pay3_ap]
  refine congrArg (fun t : EReal => clip (x (ix2 i k) * t)) ?_
  refine (bc_col (m := 7680) (n := 5120) _ broadcasts_S7680x1_S7680x5120 i k).trans ?_
  rw [← pay4_ap]
  unfold dn
  simp -implicitDefEqProofs only [ob, sel_ap, exp2_ap, subf_apply, bc_ap, pay5_ap, pay6_ap]
end Dy

/-! ## The rows of an expert -/

section Mask
variable {s : ℕ → ℕ} (hs : E s 25 = 7680) (v : Vec Ideal S25x1 .i32) (hv : ∀ e : Fin 25, v (ix2 e (0 : Fin 1)) = BitVec.ofNat 32 (s e.val))
include hs

theorem s_le {e : ℕ} (he : e < 25) : s e ≤ 7680 := by
  have h1 := E_le s hs (e := e + 1) (by omega)
  have h2 := E_succ s e
  omega

include hv

theorem pay9_ap (i e : Fin 25) : k0_pay9 (F := Ideal) v (ix2 i e) = BitVec.ofNat 32 (if i.val ≤ e.val then s i.val else 0) := by
  have hi := i.isLt
  have he := e.isLt
  unfold k0_pay9
  rw [shapeCast_self, shapeCast_self, select_at]
  rw [show broadcastTo S25x25 v broadcasts_S25x1_S25x25 (ix2 i e) = v (ix2 i (0 : Fin 1)) from
    bc_col (m := 25) (n := 25) v broadcasts_S25x1_S25x25 i e, hv]
  rw [show cmpi .sle (iota .tc S25x25 32 [0] iota_S25x25_d0_w32) (iota .tc S25x25 32 [1] iota_S25x25_d1_w32) (ix2 i e)
    = BitVec.ofBool (decide (i.val ≤ e.val)) from by
      rw [cmpi_at, iota_at, iota_at]
      simp only [List.foldl_cons, List.foldl_nil, Nat.zero_mul, Nat.zero_add]
      exact cmpi_sle_ofNat (w := 32) (a := i.val) (b := e.val) (by omega) (by omega), select_decide]
  split <;> rfl

theorem ends_ap (e : Fin 25) : multiReductionI .add [0] S25 (k0_pay9 (F := Ideal) v) 0#32 reduces_S25x25_S25 rfl (ix1 e)
    = BitVec.ofNat 32 (E s (e.val + 1)) := by
  have he := e.isLt
  have hE := E_le s hs (e := e.val + 1) (by omega)
  have hsum : ∑ i ∈ Finset.univ.filter (fun i => reduces_S25x25_S25.drop i = ix1 e), (k0_pay9 (F := Ideal) v i).toNat = E s (e.val + 1) := by
    rw [Shape.Reduces.sum_filter_drop_single reduces_S25x25_S25 (fun i => (k0_pay9 (F := Ideal) v i).toNat) (ix1 e)]
    have h1 : ∀ k : Fin 25, (k0_pay9 (F := Ideal) v (Shape.Reduces.lift reduces_S25x25_S25 (ix1 e) k)).toNat = if k.val ≤ e.val then s k.val else 0 := by
      intro k
      have hk := s_le hs k.isLt
      have e1 : Shape.Reduces.lift reduces_S25x25_S25 (ix1 e) k = ix2 k e := by
        funext a
        match a with
        | ⟨0, _⟩ => rfl
        | ⟨1, _⟩ => rfl
      rw [e1, pay9_ap hs v hv k e, BitVec.toNat_ofNat]
      split <;> omega
    refine (Finset.sum_congr rfl fun k _ => h1 k).trans ?_
    unfold E
    refine (Fin.sum_univ_eq_sum_range (fun k => if k ≤ e.val then s k else 0) 25).trans ?_
    rw [← Finset.sum_filter]
    refine Finset.sum_congr (Finset.ext fun k => ?_) fun _ _ => rfl
    rw [Finset.mem_filter, Finset.mem_range, Finset.mem_range]
    omega
  apply BitVec.eq_of_toNat_eq
  refine (WordSum.toNat_multiReductionI_add (k0_pay9 (F := Ideal) v) reduces_S25x25_S25 rfl (ix1 e) (by rw [hsum]; omega)).trans ?_
  rw [hsum, BitVec.toNat_ofNat]
  omega
end Mask

/-! ## Layout -/

section Layout
variable {α : Type} {a b c : ℕ}

theorem bc3_last (x : (⟨3, ![a, b, 1]⟩ : Shape).Idx → α) (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h _ _ fun d => ?_
  have := i.isLt
  have := j.isLt
  match d with
  | ⟨0, _⟩ => show i.val = if a = 1 then 0 else i.val; split <;> omega
  | ⟨1, _⟩ => show j.val = if b = 1 then 0 else j.val; split <;> omega
  | ⟨2, _⟩ => rfl
theorem bc3_first (x : (⟨3, ![1, b, c]⟩ : Shape).Idx → α) (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h _ _ fun d => ?_
  have := k.isLt
  have := j.isLt
  match d with
  | ⟨0, _⟩ => rfl
  | ⟨1, _⟩ => show j.val = if b = 1 then 0 else j.val; split <;> omega
  | ⟨2, _⟩ => show k.val = if c = 1 then 0 else k.val; split <;> omega
theorem bc3_col (x : (⟨3, ![a, 1, 1]⟩ : Shape).Idx → α) (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) := by
  refine broadcastTo_apply x h _ _ fun d => ?_
  have := i.isLt
  match d with
  | ⟨0, _⟩ => show i.val = if a = 1 then 0 else i.val; split <;> omega
  | ⟨1, _⟩ => rfl
  | ⟨2, _⟩ => rfl
theorem cast_mid (x : (⟨1, ![a]⟩ : Shape).Idx → α) (h : (⟨1, ![a]⟩ : Shape).ShapeCasts ⟨3, ![1, a, 1]⟩) (i : Fin a) :
    shapeCast ⟨3, ![1, a, 1]⟩ x h (ix3 (0 : Fin 1) i (0 : Fin 1)) = x (ix1 i) :=
  shapeCast_apply x h _ _ (by
    rw [Shape.rowMajor_val_one, Shape.rowMajor_val_three]
    show i.val = (0 * a + i.val) * 1 + 0
    omega)
theorem cast_mid' (x : (⟨2, ![a, 1]⟩ : Shape).Idx → α) (h : (⟨2, ![a, 1]⟩ : Shape).ShapeCasts ⟨3, ![1, a, 1]⟩) (i : Fin a) :
    shapeCast ⟨3, ![1, a, 1]⟩ x h (ix3 (0 : Fin 1) i (0 : Fin 1)) = x (ix2 i (0 : Fin 1)) :=
  shapeCast_apply x h _ _ (by
    rw [Shape.rowMajor_val_two, Shape.rowMajor_val_three]
    show i.val * 1 + 0 = (0 * a + i.val) * 1 + 0
    omega)
theorem cast_first (x : (⟨2, ![a, 1]⟩ : Shape).Idx → α) (h : (⟨2, ![a, 1]⟩ : Shape).ShapeCasts ⟨3, ![a, 1, 1]⟩) (i : Fin a) :
    shapeCast ⟨3, ![a, 1, 1]⟩ x h (ix3 i (0 : Fin 1) (0 : Fin 1)) = x (ix2 i (0 : Fin 1)) :=
  shapeCast_apply x h _ _ (by
    rw [Shape.rowMajor_val_two, Shape.rowMajor_val_three]
    show i.val * 1 + 0 = (i.val * 1 + 0) * 1 + 0
    omega)

/-- Column `n` of expert `e`, the experts' columns lying one expert after another. -/
def colOf (e : Fin 25) (n : Fin 1536) : Fin 38400 := ⟨e.val * 1536 + n.val, by have := e.isLt; have := n.isLt; omega⟩

theorem cast_cols {m : ℕ} (x : (⟨2, ![m, 38400]⟩ : Shape).Idx → α) (h : (⟨2, ![m, 38400]⟩ : Shape).ShapeCasts ⟨3, ![m, 25, 1536]⟩) (i : Fin m) (e : Fin 25) (n : Fin 1536) :
    shapeCast ⟨3, ![m, 25, 1536]⟩ x h (ix3 i e n) = x (ix2 i (colOf e n)) :=
  shapeCast_apply x h _ _ (by
    rw [Shape.rowMajor_val_two, Shape.rowMajor_val_three]
    show i.val * 38400 + (e.val * 1536 + n.val) = (i.val * 25 + e.val) * 1536 + n.val
    omega)
end Layout

/-! ## The hidden values -/

theorem dot_eq : dot_S7680x5120_S38400x5120_S7680x38400_1_1_0_0_n_n = DotDims.transposedRhs 7680 5120 38400 := rfl

theorem matmul_ap (c : FVec Ideal S7680x5120 .fp8e5m2) (w : FVec Ideal S38400x5120 .fp8e4m3) (i : Fin 7680) (n : Fin 38400) :
    matmul dot_S7680x5120_S38400x5120_S7680x38400_1_1_0_0_n_n none c w (constant S7680x38400 .f32 0x00000000#32) (ix2 i n)
      = ∑ k : Fin 5120, c (ix2 i k) * w (ix2 n k) := by
  rw [dot_eq]
  refine (Ideal.matmul_transposedRhs_apply (M := 7680) (K := 5120) (N := 38400) none c w _ i n).trans ?_
  rw [ValueIdx.constant_apply, Ideal.ofBits_zero_f32]
  exact zero_add _

/-- A sum over the experts with one nonzero term. -/
theorem pick (e₀ : Fin 25) (z : Fin 25 → EReal) : (∑ e : Fin 25, if e = e₀ then z e else 0) = z e₀ := by
  rw [Finset.sum_ite_eq' Finset.univ e₀, if_pos (Finset.mem_univ _)]

section Hidden
variable {s : ℕ → ℕ} (hs : E s 25 = 7680) (v : Vec Ideal S25x1 .i32) (hv : ∀ e : Fin 25, v (ix2 e (0 : Fin 1)) = BitVec.ofNat 32 (s e.val))
include hs hv

/-- The first row of every expert, as the reference takes it off the last. -/
theorem starts_ap (t : IVec S1x25x1 32) (ht : ∀ e : Fin 25, t (ix3 (0 : Fin 1) e (0 : Fin 1)) = BitVec.ofNat 32 (E s (e.val + 1))) (e : Fin 25) :
    subi t (shapeCast S1x25x1 (shapeCast S25x1 v shapeCasts_S25x1_S25x1) shapeCasts_S25x1_S1x25x1) (ix3 (0 : Fin 1) e (0 : Fin 1)) = BitVec.ofNat 32 (E s e.val) := by
  have he := e.isLt
  have hE := E_le s hs (e := e.val + 1) (by omega)
  have h2 := E_succ s e.val
  rw [shapeCast_self]
  refine Eq.trans (b := t (ix3 (0 : Fin 1) e (0 : Fin 1)) - shapeCast S1x25x1 v shapeCasts_S25x1_S1x25x1 (ix3 (0 : Fin 1) e (0 : Fin 1))) rfl ?_
  rw [ht, show shapeCast S1x25x1 v shapeCasts_S25x1_S1x25x1 (ix3 (0 : Fin 1) e (0 : Fin 1)) = v (ix2 e (0 : Fin 1)) from
    cast_mid' (a := 25) v shapeCasts_S25x1_S1x25x1 e, hv]
  apply BitVec.eq_of_toNat_eq
  rw [BitVec.toNat_sub, BitVec.toNat_ofNat, BitVec.toNat_ofNat, BitVec.toNat_ofNat]
  omega

/-- Whether a row is an expert's. -/
theorem mine_ap (t b : IVec S1x25x1 32) (ht : ∀ e : Fin 25, t (ix3 (0 : Fin 1) e (0 : Fin 1)) = BitVec.ofNat 32 (E s (e.val + 1)))
    (hb : ∀ e : Fin 25, b (ix3 (0 : Fin 1) e (0 : Fin 1)) = BitVec.ofNat 32 (E s e.val)) (R : Fin 7680) (e : Fin 25) :
    andi (cmpi .sle (broadcastTo S7680x25x1 b broadcasts_S1x25x1_S7680x25x1) (iota .tc S7680x25x1 32 [0] iota_S7680x25x1_d0_w32))
      (cmpi .slt (iota .tc S7680x25x1 32 [0] iota_S7680x25x1_d0_w32) (broadcastTo S7680x25x1 t broadcasts_S1x25x1_S7680x25x1)) (ix3 R e (0 : Fin 1))
      = BitVec.ofBool (decide (E s e.val ≤ R.val ∧ R.val < E s (e.val + 1))) := by
  have he := e.isLt
  have hR := R.isLt
  have hE := E_le s hs (e := e.val + 1) (by omega)
  have h2 := E_succ s e.val
  rw [andi_at, cmpi_at, cmpi_at, iota_at]
  rw [show broadcastTo S7680x25x1 b broadcasts_S1x25x1_S7680x25x1 (ix3 R e (0 : Fin 1)) = b (ix3 (0 : Fin 1) e (0 : Fin 1)) from
    bc3_first (a := 7680) (b := 25) (c := 1) b broadcasts_S1x25x1_S7680x25x1 R e 0, hb]
  rw [show broadcastTo S7680x25x1 t broadcasts_S1x25x1_S7680x25x1 (ix3 R e (0 : Fin 1)) = t (ix3 (0 : Fin 1) e (0 : Fin 1)) from
    bc3_first (a := 7680) (b := 25) (c := 1) t broadcasts_S1x25x1_S7680x25x1 R e 0, ht]
  simp only [List.foldl_cons, List.foldl_nil, Nat.zero_mul, Nat.zero_add]
  rw [show IntOp.cmpi .sle (BitVec.ofNat 32 (E s e.val)) (BitVec.ofNat 32 (ix3 R e (0 : Fin 1) 0).val) = BitVec.ofBool (decide (E s e.val ≤ R.val)) from
    cmpi_sle_ofNat (w := 32) (a := E s e.val) (b := R.val) (by omega) (by omega)]
  rw [show IntOp.cmpi .slt (BitVec.ofNat 32 (ix3 R e (0 : Fin 1) 0).val) (BitVec.ofNat 32 (E s (e.val + 1))) = BitVec.ofBool (decide (R.val < E s (e.val + 1))) from
    cmpi_slt_ofNat (w := 32) (a := R.val) (b := E s (e.val + 1)) (by omega) (by omega), andi_ofBool]
  rw [Bool.decide_and]

theorem pay10_ap (y : FVec Ideal S7680x1 .f32) (x : FVec Ideal S7680x5120 .fp8e5m2) (w : Vec Ideal S38400x5120 .fp8e4m3) (ws : Vec Ideal S25x1536 .f32)
    (R : Fin 7680) (n : Fin 1536) :
    k0_pay10 (F := Ideal) y x (k0_pay9 (F := Ideal) v) v w ws (ix2 R n)
      = (∑ k : Fin 5120, x (ix2 R k) * w (ix2 (colOf (ex s R) n) k)) * y (ix2 R (0 : Fin 1)) * ws (ix2 (ex s R) n) := by
  have ht : ∀ e : Fin 25, shapeCast S1x25x1 (multiReductionI .add [0] S25 (k0_pay9 (F := Ideal) v) 0#32 reduces_S25x25_S25 rfl) shapeCasts_S25_S1x25x1
      (ix3 (0 : Fin 1) e (0 : Fin 1)) = BitVec.ofNat 32 (E s (e.val + 1)) := fun e =>
    (cast_mid (a := 25) _ shapeCasts_S25_S1x25x1 e).trans (ends_ap hs v hv e)
  have hm := mine_ap hs v hv _ _ ht (starts_ap hs v hv _ ht) R
  unfold k0_pay10
  refine (Ideal.multiReduction_add_single _ _ reduces_S7680x25x1536_S7680x1536 (.inl rfl) rfl (ix2 R n)).trans ?_
  have h1 : ∀ e : Fin 25, Shape.Reduces.lift reduces_S7680x25x1536_S7680x1536 (ix2 R n) e = ix3 R e n := fun e => by
    funext a
    match a with
    | ⟨0, _⟩ => rfl
    | ⟨1, _⟩ => rfl
    | ⟨2, _⟩ => rfl
  obtain ⟨he, h0, h9⟩ := expert_spec s hs R.isLt
  have hx : (ex s R).val = expert s R.val := Nat.mod_eq_of_lt he
  have h2 : ∀ z : S7680x25x1536.Idx → EReal, ∀ e : Fin 25, select (broadcastTo S7680x25x1536 (shapeCast S7680x25x1 (andi (cmpi .sle (broadcastTo S7680x25x1 (subi
      (shapeCast S1x25x1 (multiReductionI .add [0] S25 (k0_pay9 (F := Ideal) v) 0#32 reduces_S25x25_S25 rfl) shapeCasts_S25_S1x25x1)
      (shapeCast S1x25x1 (shapeCast S25x1 v shapeCasts_S25x1_S25x1) shapeCasts_S25x1_S1x25x1)) broadcasts_S1x25x1_S7680x25x1) (iota .tc S7680x25x1 32 [0] iota_S7680x25x1_d0_w32))
      (cmpi .slt (iota .tc S7680x25x1 32 [0] iota_S7680x25x1_d0_w32) (broadcastTo S7680x25x1
      (shapeCast S1x25x1 (multiReductionI .add [0] S25 (k0_pay9 (F := Ideal) v) 0#32 reduces_S25x25_S25 rfl) shapeCasts_S25_S1x25x1) broadcasts_S1x25x1_S7680x25x1)))
      shapeCasts_S7680x25x1_S7680x25x1) broadcasts_S7680x25x1_S7680x25x1536) z (broadcast S7680x25x1536 (Scalar.ofBits (F := Ideal) .f32 0x00000000#32)) (ix3 R e n)
      = if e = ex s R then z (ix3 R e n) else 0 := by
    intro z e
    rw [select_at, shapeCast_self]
    refine (congrArg (fun b => Scalar.select b _ _) ((bc3_last (a := 7680) (b := 25) (c := 1536) _ broadcasts_S7680x25x1_S7680x25x1536 R e n).trans (hm e))).trans ?_
    rw [select_decide]
    by_cases h : e = ex s R
    · rw [if_pos h, if_pos (by rw [h, hx]; exact ⟨h0, h9⟩)]
    · rw [if_neg h, if_neg (fun hc => h (Fin.ext (hx ▸ expert_unique s hs hc.1 hc.2 h0 h9))), bc_ap, ob, Ideal.ofBits_zero_f32]
  refine (Finset.sum_congr rfl fun (e : Fin 25) _ => (congrArg _ (h1 e)).trans (h2 _ e)).trans ?_
  refine (pick (ex s R) _).trans ?_
  rw [mulf_apply, mulf_apply]
  rw [shapeCast_self]
  refine congrArg₂ (fun a b : EReal => a * b) (congrArg₂ (fun a b : EReal => a * b) ?_ ?_) ?_
  · exact (cast_cols (m := 7680) _ shapeCasts_S7680x38400_S7680x25x1536 R (ex s R) n).trans (matmul_ap x w R _)
  · exact (bc3_col (a := 7680) (b := 25) (c := 1536) _ broadcasts_S7680x1x1_S7680x25x1536 R (ex s R) n).trans (cast_first (a := 7680) y shapeCasts_S7680x1_S7680x1x1 R)
  · exact (bc3_first (a := 7680) (b := 25) (c := 1536) _ broadcasts_S1x25x1536_S7680x25x1536 R (ex s R) n).trans
      (shapeCast_ab_1ab_apply (a := 25) (b := 1536) ws shapeCasts_S25x1536_S1x25x1536 (0 : Fin 1) (ex s R) n)
end Hidden

/-! ## The gradients -/

section Gate
variable (g : Vec Ideal S7680x1536 .bf16) (j : S7680x1536.Idx)

theorem pay11_ap : k0_pay11 (F := Ideal) g j = g j := rfl
theorem pay12_ap : k0_pay12 (F := Ideal) g j = sg (g j) := by
  unfold k0_pay12 sg
  simp -implicitDefEqProofs only [ob, divf_apply, addf_apply, subf_apply, exp_ap, bc_ap, pay11_ap]
theorem pay14_ap : k0_pay14 (F := Ideal) g j = Ideal.ofBits .f32 0x3F800000#32 - sg (g j) := by
  unfold k0_pay14
  simp -implicitDefEqProofs only [ob, subf_apply, bc_ap, pay12_ap]
end Gate

/-- A row of the array. -/
abbrev rw7 (x : S7680x1536.Idx → EReal) (R : Fin 7680) : Fin 1536 → EReal := fun k => x (ix2 R k)

section Out
variable (h : FVec Ideal S7680x1536 .f32) (g u : S7680x1536.Idx → EReal) (a b p r : FVec Ideal S7680x1536 .f32)
  (ha : ∀ j, a j = g j) (hb : ∀ j, b j = sg (g j)) (hp : ∀ j, p j = h j * u j * sg (g j))
  (hr : ∀ j, r j = Ideal.ofBits .f32 0x3F800000#32 - sg (g j))
include ha hb hp hr

theorem pay15_ap (j : S7680x1536.Idx) : k0_pay15 (F := Ideal) a p r j = dg (h j) (g j) (u j) := by
  unfold k0_pay15 dg
  simp -implicitDefEqProofs only [ob, mulf_apply, addf_apply, bc_ap, ha, hp, hr]
omit hp hr in
theorem pay16_ap (j : S7680x1536.Idx) : k0_pay16 (F := Ideal) h a b j = du (h j) (g j) := by
  unfold k0_pay16 du
  simp -implicitDefEqProofs only [mulf_apply, ha, hb]

theorem pay17_ap (R : Fin 7680) : k0_pay17 (F := Ideal) h a b p r (ix2 R (0 : Fin 1)) = jq (rw7 h R) (rw7 g R) (rw7 u R) := by
  have h1 := rowMax (m := 7680) (n := 1536) (k0_pay15 (F := Ideal) a p r) reduces_S7680x1536_S7680 (.inl rfl) rfl shapeCasts_S7680_S7680x1 R
  have h2 := rowMax (m := 7680) (n := 1536) (k0_pay16 (F := Ideal) h a b) reduces_S7680x1536_S7680 (.inl rfl) rfl shapeCasts_S7680_S7680x1 R
  simp -implicitDefEqProofs only [pay15_ap h g u a b p r ha hb hp hr] at h1
  simp -implicitDefEqProofs only [pay16_ap h g a b ha hb] at h2
  unfold k0_pay17 jq
  simp -implicitDefEqProofs only [ob, mulf_apply, maximumf_apply, bc_ap]
  exact congrArg (fun t : EReal => t * Ideal.ofBits .f32 0x37924925#32) (congrArg₂ max h1 h2)

omit ha hb hp hr in
theorem pay18_ap (j : S7680x1.Idx) : k0_pay18 (F := Ideal) h a b p r j = expo (k0_pay17 (F := Ideal) h a b p r j) := by
  unfold k0_pay18 expo
  simp -implicitDefEqProofs only [ob, log_ap, floor_ap, divf_apply, addf_apply, bc_ap]
omit ha hb hp hr in
theorem pay19_ap (j : S7680x1.Idx) : k0_pay19 (F := Ideal) h a b p r j = normal (k0_pay17 (F := Ideal) h a b p r j) := by
  unfold k0_pay19 normal
  simp -implicitDefEqProofs only [ob, and_ap, cmp_ap, bc_ap]

theorem pay20_ap (R : Fin 7680) : k0_pay20 (F := Ideal) h a b p r (ix2 R (0 : Fin 1)) = up (jq (rw7 h R) (rw7 g R) (rw7 u R)) := by
  rw [← pay17_ap h g u a b p r ha hb hp hr]
  unfold k0_pay20 up
  simp -implicitDefEqProofs only [ob, sel_ap, exp2_ap, bc_ap, pay18_ap, pay19_ap]
theorem pay21_ap (R : Fin 7680) : k0_pay21 (F := Ideal) h a b p r (ix2 R (0 : Fin 1)) = dn (jq (rw7 h R) (rw7 g R) (rw7 u R)) := by
  rw [← pay17_ap h g u a b p r ha hb hp hr]
  unfold k0_pay21 dn
  simp -implicitDefEqProofs only [ob, sel_ap, exp2_ap, subf_apply, bc_ap, pay18_ap, pay19_ap]

theorem slab0_ap (i : Fin 1) (R : Fin 7680) (n : Fin 1536) : k0_pay1 (F := Ideal) (k0_pay22 (F := Ideal) h a b p r) (ix3 i R n)
    = clip (dg (h (ix2 R n)) (g (ix2 R n)) (u (ix2 R n)) * dn (jq (rw7 h R) (rw7 g R) (rw7 u R))) := by
  unfold k0_pay1
  refine (shapeCast_ab_1ab_apply (a := 7680) (b := 1536) _ shapeCasts_S7680x1536_S1x7680x1536 i R n).trans ?_
  unfold k0_pay22
  rw [truncf_apply, clip_ap, pay15_ap h g u a b p r ha hb hp hr]
  refine congrArg (fun t : EReal => clip (dg (h (ix2 R n)) (g (ix2 R n)) (u (ix2 R n)) * t)) ?_
  exact (bc_col (m := 7680) (n := 1536) _ broadcasts_S7680x1_S7680x1536 R n).trans (pay21_ap h g u a b p r ha hb hp hr R)

theorem slab1_ap (i : Fin 1) (R : Fin 7680) (n : Fin 1536) : k0_pay2 (F := Ideal) (k0_pay16 (F := Ideal) h a b) (k0_pay21 (F := Ideal) h a b p r) (ix3 i R n)
    = clip (du (h (ix2 R n)) (g (ix2 R n)) * dn (jq (rw7 h R) (rw7 g R) (rw7 u R))) := by
  unfold k0_pay2
  refine (shapeCast_ab_1ab_apply (a := 7680) (b := 1536) _ shapeCasts_S7680x1536_S1x7680x1536 i R n).trans ?_
  rw [truncf_apply, clip_ap, pay16_ap h g a b ha hb]
  refine congrArg (fun t : EReal => clip (du (h (ix2 R n)) (g (ix2 R n)) * t)) ?_
  exact (bc_col (m := 7680) (n := 1536) _ broadcasts_S7680x1_S7680x1536 R n).trans (pay21_ap h g u a b p r ha hb hp hr R)
end Out

/-! ## The results of the body -/

section Body
variable {s : ℕ → ℕ} (x0 : Vec Ideal S25x1 .i32) (x1 : Vec Ideal S7680x5120 .bf16) (x2 : Vec Ideal S38400x5120 .fp8e4m3)
  (x3 : Vec Ideal S25x1536 .f32) (x4 x5 : Vec Ideal S7680x1536 .bf16)

/-- The weights with the experts' columns apart. -/
abbrev W : (⟨3, ![25, 1536, 5120]⟩ : Shape).Idx → EReal := fun y => x2 (ix2 (colOf (y 0) (y 1)) (y 2))

variable (hs : E s 25 = 7680) (hv : ∀ e : Fin 25, x0 (ix2 e (0 : Fin 1)) = BitVec.ofNat 32 (s e.val))

include hs hv in
theorem hid_ap (R : Fin 7680) (n : Fin 1536) : k0_pay26 (F := Ideal) x0 x1 x2 x3 x4 x5 (ix2 R n) = hid x1 (W x2) x3 s R n := by
  unfold k0_pay26 k0_pay25 k0_pay24 k0_pay23
  rw [View.ld_unit_zero z2, View.ld_unit_zero z2, View.ld_unit_zero z2, View.ld_unit_zero z2]
  refine (pay10_ap hs x0 hv _ _ x2 x3 R n).trans ?_
  unfold hid dot
  exact congrArg (fun a : EReal => a * x3 (ix2 (ex s R) n)) (congrArg₂ (fun a b : EReal => a * b)
    (Finset.sum_congr rfl fun k _ => congrArg (fun a : EReal => a * x2 (ix2 (colOf (ex s R) n) k)) (pay8_ap x1 R k)) (pay7_ap x1 R))

theorem p27 (j : S7680x1536.Idx) : k0_pay27 (F := Ideal) x0 x1 x2 x3 x4 x5 j = x4 j := by
  unfold k0_pay27; rw [View.ld_unit_zero z2]; exact pay11_ap x4 j
theorem p28 (j : S7680x1536.Idx) : k0_pay28 (F := Ideal) x0 x1 x2 x3 x4 x5 j = sg (x4 j) := by
  unfold k0_pay28; rw [View.ld_unit_zero z2]; exact pay12_ap x4 j
theorem p29 (j : S7680x1536.Idx) : k0_pay29 (F := Ideal) x0 x1 x2 x3 x4 x5 j = k0_pay26 (F := Ideal) x0 x1 x2 x3 x4 x5 j * x5 j * sg (x4 j) := by
  unfold k0_pay29 k0_pay26 k0_pay13
  rw [View.ld_unit_zero z2 (X := x4), View.ld_unit_zero z2 (X := x5), mulf_apply, mulf_apply, extf_apply, pay12_ap]
theorem p30 (j : S7680x1536.Idx) : k0_pay30 (F := Ideal) x0 x1 x2 x3 x4 x5 j = Ideal.ofBits .f32 0x3F800000#32 - sg (x4 j) := by
  unfold k0_pay30; rw [View.ld_unit_zero z2]; exact pay14_ap x4 j

include hs hv in
theorem joint_ap (R : Fin 7680) : jq (rw7 (k0_pay26 (F := Ideal) x0 x1 x2 x3 x4 x5) R) (rw7 x4 R) (rw7 x5 R) = joint x1 (W x2) x3 x4 x5 s R := by
  unfold joint
  rw [show rw7 (k0_pay26 (F := Ideal) x0 x1 x2 x3 x4 x5) R = hid x1 (W x2) x3 s R from funext fun n => hid_ap x0 x1 x2 x3 x4 x5 hs hv R n]

include hs hv in
theorem out7_ap (R : Fin 7680) : out0_7 (F := Ideal) x0 x1 x2 x3 x4 x5 (ix2 R (0 : Fin 1)) = scales x1 (W x2) x3 x4 x5 s (ix2 R (0 : Fin 1)) := by
  unfold out0_7 scales
  rw [View.canon_unit_zero z2]
  refine (pay20_ap _ x4 x5 _ _ _ _ (p27 x0 x1 x2 x3 x4 x5) (p28 x0 x1 x2 x3 x4 x5) (p29 x0 x1 x2 x3 x4 x5) (p30 x0 x1 x2 x3 x4 x5) R).trans ?_
  rw [joint_ap x0 x1 x2 x3 x4 x5 hs hv]

theorem ix3_eta (x : S1x7680x1536.Idx) : x = ix3 (x 0) (x 1) (x 2) := by
  funext k; match k with | ⟨0, _⟩ => rfl | ⟨1, _⟩ => rfl | ⟨2, _⟩ => rfl

include hs hv in
theorem out6_ap (y : S2x7680x1536.Idx) : out0_6 (F := Ideal) x0 x1 x2 x3 x4 x5 y = codes x1 (W x2) x3 x4 x5 s y := by
  have h0 := slab0_ap _ x4 x5 _ _ _ _ (p27 x0 x1 x2 x3 x4 x5) (p28 x0 x1 x2 x3 x4 x5) (p29 x0 x1 x2 x3 x4 x5) (p30 x0 x1 x2 x3 x4 x5)
  have h1 := slab1_ap _ x4 x5 _ _ _ _ (p27 x0 x1 x2 x3 x4 x5) (p28 x0 x1 x2 x3 x4 x5) (p29 x0 x1 x2 x3 x4 x5) (p30 x0 x1 x2 x3 x4 x5)
  have hj := joint_ap x0 x1 x2 x3 x4 x5 hs hv
  have hh := hid_ap x0 x1 x2 x3 x4 x5 hs hv
  unfold out0_6
  refine View.canon_apply_of_pieces (Val := Elt Ideal) (S := S2x7680x1536) (e := .fp8e5m2) (codes x1 (W x2) x3 x4 x5 s) _ ?_ y (cover0_6 _ _ y)
  intro p hp
  simp only [List.mem_cons, List.not_mem_nil, or_false] at hp
  rcases hp with rfl | rfl
  · intro (x : S1x7680x1536.Idx)
    have e0 : (r0_6.emb x 0).val = 1 := by rw [emb_unit]; have : (x 0).val < 1 := (x 0).isLt; show 1 + (x 0).val = 1; omega
    have e1 : r0_6.emb x 1 = x 1 := Fin.ext (by show (r0_6.emb x 1).val = (x 1).val; rw [emb_unit]; exact Nat.zero_add _)
    have e2 : r0_6.emb x 2 = x 2 := Fin.ext (by show (r0_6.emb x 2).val = (x 2).val; rw [emb_unit]; exact Nat.zero_add _)
    refine (congrArg (k0_pay2 (F := Ideal) _ _) (ix3_eta x)).trans ((h1 (x 0) (x 1) (x 2)).trans ?_)
    rw [hh (x 1) (x 2), hj (x 1)]
    refine Eq.trans (b := lin x1 (W x2) x3 x4 x5 s (r0_6.emb x 1) (r0_6.emb x 2)) ?_ (if_neg (fun h : (r0_6.emb x 0).val = 0 => by omega)).symm
    exact congrArg₂ (fun (i : Fin 7680) (n : Fin 1536) => lin x1 (W x2) x3 x4 x5 s i n) e1.symm e2.symm
  · intro (x : S1x7680x1536.Idx)
    have e0 : (r0_5.emb x 0).val = 0 := by rw [emb_unit]; have : (x 0).val < 1 := (x 0).isLt; show 0 + (x 0).val = 0; omega
    have e1 : r0_5.emb x 1 = x 1 := Fin.ext (by show (r0_5.emb x 1).val = (x 1).val; rw [emb_unit]; exact Nat.zero_add _)
    have e2 : r0_5.emb x 2 = x 2 := Fin.ext (by show (r0_5.emb x 2).val = (x 2).val; rw [emb_unit]; exact Nat.zero_add _)
    refine (congrArg (k0_pay1 (F := Ideal) _) (ix3_eta x)).trans ((h0 (x 0) (x 1) (x 2)).trans ?_)
    rw [hh (x 1) (x 2), hj (x 1)]
    refine Eq.trans (b := gate x1 (W x2) x3 x4 x5 s (r0_5.emb x 1) (r0_5.emb x 2)) ?_ (if_pos e0).symm
    exact congrArg₂ (fun (i : Fin 7680) (n : Fin 1536) => gate x1 (W x2) x3 x4 x5 s i n) e1.symm e2.symm
end Body

end Cert.Proof.RefRow
-- ==== Proof.RefValue.lean ====
module

public import proofs.«01_k».proof.Proof.RefRow
public import Idealize.ShloMosaic.Lib.Pipeline.ValueKit.Geometry
@[expose] public section
set_option maxRecDepth 16384
noncomputable section

/-! # The arrays the reference leaves

The reference's launch has one point, so each result array ends holding what the body leaves there. -/
namespace Cert.Proof.RefValue

open Idealize.ShloMosaic Idealize.ShloMosaic.TcCoe Idealize.ShloMosaic.Tactic Idealize.ShloMosaic.Pipeline
open Idealize.ShloMosaic.ValueIdx (ix1 ix2 ix3)
open Cert.ReferenceIdeal Cert.ReferenceIdeal.Gen Cert.Proof.Spec Cert.Proof.RefRow
open Cert.Proof.Tables (E)

variable (m : (ℓ : Loc nD τ sig) → Buf (Elt Ideal) ℓ) (c : Dev nD)

/-- The group sizes as a column. -/
theorem V_v0 : V m c main_v0 = shapeCast S25x1 (m ((c : Thread nD τ).loc main_arg1)) shapeCasts_S25_S25x1 := by
  unfold V; after_results_simp; rfl
/-- The weights as one matrix. -/
theorem V_v1 : V m c main_v1 = shapeCast S38400x5120 (m ((c : Thread nD τ).loc main_arg2)) shapeCasts_S25x1536x5120_S38400x5120 := by
  unfold V; after_results_simp; rfl

/-! The launch's one point reads every array whole. -/
theorem index0 : win0_0.index t0_0 = ![0, 0] := by decide +kernel
theorem index1 : win0_1.index t0_0 = ![0, 0] := by decide +kernel
theorem index2 : win0_2.index t0_0 = ![0, 0] := by decide +kernel
theorem index3 : win0_3.index t0_0 = ![0, 0] := by decide +kernel
theorem index4 : win0_4.index t0_0 = ![0, 0] := by decide +kernel
theorem index5 : win0_5.index t0_0 = ![0, 0] := by decide +kernel
theorem blk0 : iblk m c 0 t0_0 = V m c main_v0 := by
  funext y; blk_simp [iblk]; exact congrArg (V m c main_v0) (by blk_ext [index0])
theorem blk1 : iblk m c 1 t0_0 = V m c main_arg0 := by
  funext y; blk_simp [iblk]; exact congrArg (V m c main_arg0) (by blk_ext [index1])
theorem blk2 : iblk m c 2 t0_0 = V m c main_v1 := by
  funext y; blk_simp [iblk]; exact congrArg (V m c main_v1) (by blk_ext [index2])
theorem blk3 : iblk m c 3 t0_0 = V m c main_arg3 := by
  funext y; blk_simp [iblk]; exact congrArg (V m c main_arg3) (by blk_ext [index3])
theorem blk4 : iblk m c 4 t0_0 = V m c main_arg4 := by
  funext y; blk_simp [iblk]; exact congrArg (V m c main_arg4) (by blk_ext [index4])
theorem blk5 : iblk m c 5 t0_0 = V m c main_arg5 := by
  funext y; blk_simp [iblk]; exact congrArg (V m c main_arg5) (by blk_ext [index5])

theorem size_ap (e : Fin 25) : shapeCast S25x1 (m ((c : Thread nD τ).loc main_arg1)) shapeCasts_S25_S25x1 (ix2 e (0 : Fin 1))
    = m ((c : Thread nD τ).loc main_arg1) (ix1 e) := by
  refine shapeCast_apply _ _ _ (ix1 e) ?_
  rw [Shape.rowMajor_val_one, Shape.rowMajor_val_two]
  show e.val = e.val * 1 + 0
  omega

theorem W_cast (x : Vec Ideal S25x1536x5120 .fp8e4m3) : W (shapeCast S38400x5120 x shapeCasts_S25x1536x5120_S38400x5120) = x := by
  funext y
  refine shapeCast_apply _ _ _ y ?_
  rw [Shape.rowMajor_val_three, Shape.rowMajor_val_two]
  rfl

variable {s : ℕ → ℕ} (hs : E s 25 = 7680) (hv : ∀ e : Fin 25, m ((c : Thread nD τ).loc main_arg1) (ix1 e) = BitVec.ofNat 32 (s e.val))

include hs hv in
theorem sizes_ap (e : Fin 25) : (V m c main_v0 : Vec Ideal S25x1 .i32) (ix2 e (0 : Fin 1)) = BitVec.ofNat 32 (s e.val) := by
  rw [V_v0]; exact (size_ap m c e).trans (hv e)

include hs hv in
/-- What the body leaves of the codes. -/
theorem outs6 : out0_6 (F := Ideal) (iblk m c 0 t0_0) (iblk m c 1 t0_0) (iblk m c 2 t0_0) (iblk m c 3 t0_0) (iblk m c 4 t0_0) (iblk m c 5 t0_0)
    = codes (m ((c : Thread nD τ).loc main_arg0)) (m ((c : Thread nD τ).loc main_arg2))
        (m ((c : Thread nD τ).loc main_arg3)) (m ((c : Thread nD τ).loc main_arg4)) (m ((c : Thread nD τ).loc main_arg5)) s := by
  rw [blk0, blk1, blk2, blk3, blk4, blk5, V_main_arg0, V_main_arg3, V_main_arg4, V_main_arg5]
  funext y
  refine (out6_ap _ _ _ _ _ _ hs (sizes_ap m c hs hv) y).trans ?_
  rw [V_v1, W_cast]

theorem ix2_eta (y : S7680x1.Idx) : y = ix2 (y 0) (0 : Fin 1) := by
  funext k; match k with | ⟨0, _⟩ => rfl | ⟨1, _⟩ => exact Subsingleton.elim (α := Fin 1) _ _

include hs hv in
/-- What the body leaves of the scales. -/
theorem outs7 : out0_7 (F := Ideal) (iblk m c 0 t0_0) (iblk m c 1 t0_0) (iblk m c 2 t0_0) (iblk m c 3 t0_0) (iblk m c 4 t0_0) (iblk m c 5 t0_0)
    = scales (m ((c : Thread nD τ).loc main_arg0)) (m ((c : Thread nD τ).loc main_arg2))
        (m ((c : Thread nD τ).loc main_arg3)) (m ((c : Thread nD τ).loc main_arg4)) (m ((c : Thread nD τ).loc main_arg5)) s := by
  rw [blk0, blk1, blk2, blk3, blk4, blk5, V_main_arg0, V_main_arg3, V_main_arg4, V_main_arg5]
  funext y
  rw [ix2_eta y]
  refine (out7_ap _ _ _ _ _ _ hs (sizes_ap m c hs hv) (y 0)).trans ?_
  rw [V_v1, W_cast]
  generalize scales _ _ _ _ _ _ = G
  rfl

include hs hv in
/-- The codes. -/
theorem final6 : (dats m 0 c).arrAt 6 cfg0.N = codes (m ((c : Thread nD τ).loc main_arg0)) (m ((c : Thread nD τ).loc main_arg2))
    (m ((c : Thread nD τ).loc main_arg3)) (m ((c : Thread nD τ).loc main_arg4)) (m ((c : Thread nD τ).loc main_arg5)) s := by
  refine (dats m 0 c).arrAt_eq_of_after_last 6 t0_0 (by decide +kernel) _ fun j => ?_
  rw [after0_6, outs6 m c hs hv]
  generalize codes _ _ _ _ _ _ = G
  blk_simp

include hs hv in
/-- The scales. -/
theorem final7 : (dats m 0 c).arrAt 7 cfg0.N = scales (m ((c : Thread nD τ).loc main_arg0)) (m ((c : Thread nD τ).loc main_arg2))
    (m ((c : Thread nD τ).loc main_arg3)) (m ((c : Thread nD τ).loc main_arg4)) (m ((c : Thread nD τ).loc main_arg5)) s := by
  refine (dats m 0 c).arrAt_eq_of_after_last 7 t0_0 (by decide +kernel) _ fun j => ?_
  rw [after0_7, outs7 m c hs hv]
  generalize scales _ _ _ _ _ _ = G
  blk_simp

end Cert.Proof.RefValue
-- ==== Proof.Algebraic.lean ====
module

public import proofs.«01_k».proof.Proof.Frames
public import proofs.«01_k».proof.Proof.KernelResult
public import proofs.«01_k».proof.Proof.RefValue
@[expose] public section
set_option maxRecDepth 16384
noncomputable section

/-! # The algebraic claim

On extended reals the kernel and the reference leave the same codes and the same scales. -/
namespace Cert.Proof

open Idealize.ShloMosaic Idealize.ShloMosaic.TcCoe Idealize.ShloMosaic.Pipeline Idealize.SL.Sem
open Idealize.ShloMosaic.ValueIdx (ix1)

namespace RefResult
open Cert.ReferenceIdeal Cert.ReferenceIdeal.Gen Cert.Proof.Spec
open Cert.Proof.Tables (E)

variable (m : (ℓ : Loc nD τ sig) → Buf (Elt Ideal) ℓ) (ρ : Dev nD → PrngReg)
variable {s : ℕ → ℕ} (hs : E s 25 = 7680) (hv : ∀ (c : Dev nD) (e : Fin 25), m ((c : Thread nD τ).loc main_arg1) (ix1 e) = BitVec.ofNat 32 (s e.val))

include hs hv in
/-- The reference's run leaves the codes and the scales. -/
theorem results : θ_run (defs (F := Ideal)) (onTc (τ := τ) (main (F := Ideal))) ⟨m, fun _ => 0, ρ⟩ (fun r => ∀ c : Dev nD,
    r.2.mem ((c.tc : Thread nD τ).loc main_v2_0) = codes (m ((c : Thread nD τ).loc main_arg0)) (m ((c : Thread nD τ).loc main_arg2))
        (m ((c : Thread nD τ).loc main_arg3)) (m ((c : Thread nD τ).loc main_arg4)) (m ((c : Thread nD τ).loc main_arg5)) s
    ∧ r.2.mem ((c.tc : Thread nD τ).loc main_v2_1) = scales (m ((c : Thread nD τ).loc main_arg0)) (m ((c : Thread nD τ).loc main_arg2))
        (m ((c : Thread nD τ).loc main_arg3)) (m ((c : Thread nD τ).loc main_arg4)) (m ((c : Thread nD τ).loc main_arg5)) s) :=
  (θ_run defs _ _).mono (fun _ h c => ⟨((h c).1 6).trans (RefValue.final6 m c hs (hv c)), ((h c).1 7).trans (RefValue.final7 m c hs (hv c))⟩)
    (run_main m ρ)
end RefResult

attribute [local instance] Cert.Kernel.Gen.facts Cert.KernelIdeal.Gen.facts Cert.ReferenceIdeal.Gen.facts Cert.Pre_sizes_split_rows.Gen.facts

theorem algebraic : Cert.algebraic_KernelIdeal_ReferenceIdeal := by
  intro m g m' g' hp hargs
  obtain ⟨s, hs, hz⟩ : ∃ s : ℕ → ℕ, Tables.E s 25 = 7680 ∧ ∀ e : Fin 25,
      m (((0 : Dev Cert.KernelIdeal.nD) : Thread Cert.KernelIdeal.nD Cert.KernelIdeal.τ).loc Cert.KernelIdeal.main_arg1) (ix1 e) = BitVec.ofNat 32 (s e.val) :=
    ⟨_, Pre.hs _ _ _ _ _ _ (hp 0), Pre.hz _⟩
  refine ⟨fun c => KernelResult.resCodes m c s, fun c => KernelResult.resScales m c s, ?_, ?_⟩
  · exact (θ_run _ _ _).mono (fun _ h c => ⟨(h.1 c).1, (h.1 c).2, h.2.1 c⟩)
      (θ_run_and (KernelResult.results m g hz hs rfl) (Launch.frame (F := Ideal) m g hz hs rfl))
  · have k := RefResult.results m' g' hs (fun c e => by
      obtain rfl : c = 0 := Subsingleton.elim _ _
      rw [(hargs 0).2.1]; exact hz e)
    refine (θ_run _ _ _).mono (fun _ h c => ⟨(h.1 c).1.trans ?_, (h.1 c).2.trans ?_, h.2 c⟩) (θ_run_and k (Cert.ReferenceIdeal.Gen.unchanged m' g'))
    · obtain ⟨h0, h1, h2, h3, h4, h5⟩ := hargs c
      rw [h0, h2, h3, h4, h5]; rfl
    · obtain ⟨h0, h1, h2, h3, h4, h5⟩ := hargs c
      rw [h0, h2, h3, h4, h5]; rfl

end Cert.Proof
-- ==== Proof.lean ====
module

public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_sizes_split_rows.Gen.facts,
  frame_Kernel, frame_KernelIdeal, frame_ReferenceIdeal, frame_ReferenceIdeal_pre, trivial, algebraic⟩

end Cert.Proof

end
